-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v88)) (v1 : (c : Dev Cert.KernelIdeal.nD) → Buf (Elt Ideal) ((c.tc : Thread Cert.KernelIdeal.nD Cert.KernelIdeal.τ).loc Cert.KernelIdeal.main_v89)) (v2 : (c : Dev Cert.KernelIdeal.nD) → Buf (Elt Ideal) ((c.tc : Thread Cert.KernelIdeal.nD Cert.KernelIdeal.τ).loc Cert.KernelIdeal.main_v86)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v88) = v0 c
          ∧ r.2.mem ((c.tc : Thread Cert.KernelIdeal.nD Cert.KernelIdeal.τ).loc Cert.KernelIdeal.main_v89) = v1 c
          ∧ r.2.mem ((c.tc : Thread Cert.KernelIdeal.nD Cert.KernelIdeal.τ).loc Cert.KernelIdeal.main_v86) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v94) = v1 c
          ∧ r.2.mem ((c.tc : Thread Cert.ReferenceIdeal.nD Cert.ReferenceIdeal.τ).loc Cert.ReferenceIdeal.main_v91) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S20000x5 : Shape := ⟨2, ![20000, 5]⟩
abbrev S20000 : Shape := ⟨1, ![20000]⟩
abbrev S_ : Shape := ⟨0, ![]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x5 : Shape := ⟨2, ![1000, 5]⟩
abbrev S1024 : Shape := ⟨1, ![1024]⟩
abbrev S1x1024 : Shape := ⟨2, ![1, 1024]⟩
abbrev S8x1024 : Shape := ⟨2, ![8, 1024]⟩
abbrev S1024x1 : Shape := ⟨2, ![1024, 1]⟩
abbrev S1024x5 : Shape := ⟨2, ![1024, 5]⟩
abbrev S1024x128 : Shape := ⟨2, ![1024, 128]⟩
abbrev S1024x1024 : Shape := ⟨2, ![1024, 1024]⟩
abbrev S8x1 : Shape := ⟨2, ![8, 1]⟩
abbrev S1x1x1024 : Shape := ⟨3, ![1, 1, 1024]⟩
abbrev S1x1x1 : Shape := ⟨3, ![1, 1, 1]⟩
abbrev S1x1000 : Shape := ⟨2, ![1, 1000]⟩
abbrev S300 : Shape := ⟨1, ![300]⟩
abbrev S300x1 : Shape := ⟨2, ![300, 1]⟩
abbrev S300x5 : Shape := ⟨2, ![300, 5]⟩

abbrev nBuf : Space → Nat
  | .hbm => 233
  | .vmem => 4
  | .smem => 0
  | _ => 0

abbrev hbmTy0_0 (i : Nat) : BufTy := match i % 128 with
  | 0 => ⟨S20000x5, .f32⟩
  | 1 => ⟨S20000, .f32⟩
  | 2 => ⟨S20000, .i32⟩
  | 3 => ⟨S_, .f32⟩
  | 4 => ⟨S20000, .f32⟩
  | 5 => ⟨S20000, .i1⟩
  | 6 => ⟨S_, .f32⟩
  | 7 => ⟨S_, .f32⟩
  | 8 => ⟨S20000, .f32⟩
  | 9 => ⟨S20000, .f32⟩
  | 10 => ⟨S1000, .f32⟩
  | 11 => ⟨S1000, .i32⟩
  | 12 => ⟨S_, .i32⟩
  | 13 => ⟨S1000, .i32⟩
  | 14 => ⟨S1000, .i1⟩
  | 15 => ⟨S_, .i32⟩
  | 16 => ⟨S1000, .i32⟩
  | 17 => ⟨S1000, .i32⟩
  | 18 => ⟨S1000, .i32⟩
  | 19 => ⟨S1000x1, .i32⟩
  | 20 => ⟨S1, .i32⟩
  | 21 => ⟨S_, .i32⟩
  | 22 => ⟨S1000x1, .i32⟩
  | 23 => ⟨S1000x1, .i1⟩
  | 24 => ⟨S1x1, .i32⟩
  | 25 => ⟨S1000x1, .i32⟩
  | 26 => ⟨S1000x1, .i1⟩
  | 27 => ⟨S1000x1, .i1⟩
  | 28 => ⟨S_, .i1⟩
  | 29 => ⟨S1000, .i1⟩
  | 30 => ⟨S1000x5, .f32⟩
  | 31 => ⟨S1000x5, .i1⟩
  | 32 => ⟨S_, .f32⟩
  | 33 => ⟨S1000x5, .f32⟩
  | 34 => ⟨S1000x5, .f32⟩
  | 35 => ⟨S_, .i32⟩
  | 36 => ⟨S1000, .i32⟩
  | 37 => ⟨S1000, .i1⟩
  | 38 => ⟨S_, .i32⟩
  | 39 => ⟨S1000, .i32⟩
  | 40 => ⟨S1000, .i32⟩
  | 41 => ⟨S1000, .i32⟩
  | 42 => ⟨S1000x1, .i32⟩
  | 43 => ⟨S1, .i32⟩
  | 44 => ⟨S_, .i32⟩
  | 45 => ⟨S1000x1, .i32⟩
  | 46 => ⟨S1000x1, .i1⟩
  | 47 => ⟨S1x1, .i32⟩
  | 48 => ⟨S1000x1, .i32⟩
  | 49 => ⟨S1000x1, .i1⟩
  | 50 => ⟨S1000x1, .i1⟩
  | 51 => ⟨S_, .i1⟩
  | 52 => ⟨S1000, .i1⟩
  | 53 => ⟨S1000, .i32⟩
  | 54 => ⟨S_, .i32⟩
  | 55 => ⟨S1000, .i32⟩
  | 56 => ⟨S1000, .i32⟩
  | 57 => ⟨S_, .f32⟩
  | 58 => ⟨S1000, .f32⟩
  | 59 => ⟨S1000, .i1⟩
  | 60 => ⟨S1000, .f32⟩
  | 61 => ⟨S_, .f32⟩
  | 62 => ⟨S1000, .f32⟩
  | 63 => ⟨S1000, .f32⟩
  | 64 => ⟨S1000x1, .f32⟩
  | 65 => ⟨S1000, .f32⟩
  | 66 => ⟨S1000, .f32⟩
  | 67 => ⟨S1000x1, .f32⟩
  | 68 => ⟨S1000, .f32⟩
  | 69 => ⟨S1000, .f32⟩
  | 70 => ⟨S1000x1, .f32⟩
  | 71 => ⟨S1000, .f32⟩
  | 72 => ⟨S1000x1, .f32⟩
  | 73 => ⟨S1000, .f32⟩
  | 74 => ⟨S1000x1, .f32⟩
  | 75 => ⟨S1000, .f32⟩
  | 76 => ⟨S1000, .f32⟩
  | 77 => ⟨S1000, .f32⟩
  | 78 => ⟨S1000, .f32⟩
  | 79 => ⟨S1000, .f32⟩
  | 80 => ⟨S1000, .f32⟩
  | 81 => ⟨S1000, .f32⟩
  | 82 => ⟨S1000, .f32⟩
  | 83 => ⟨S1000, .f32⟩
  | 84 => ⟨S1000, .f32⟩
  | 85 => ⟨S1000, .f32⟩
  | 86 => ⟨S_, .f32⟩
  | 87 => ⟨S1000, .f32⟩
  | 88 => ⟨S1000, .f32⟩
  | 89 => ⟨S1000, .f32⟩
  | 90 => ⟨S_, .f32⟩
  | 91 => ⟨S1000, .f32⟩
  | 92 => ⟨S1000, .f32⟩
  | 93 => ⟨S1000, .f32⟩
  | 94 => ⟨S_, .f32⟩
  | 95 => ⟨S1000, .f32⟩
  | 96 => ⟨S1000, .f32⟩
  | 97 => ⟨S1000, .f32⟩
  | 98 => ⟨S_, .f32⟩
  | 99 => ⟨S1000, .f32⟩
  | 100 => ⟨S1000, .f32⟩
  | 101 => ⟨S1000, .f32⟩
  | 102 => ⟨S1000, .f32⟩
  | 103 => ⟨S1000, .f32⟩
  | 104 => ⟨S1000, .f32⟩
  | 105 => ⟨S_, .f32⟩
  | 106 => ⟨S1024, .f32⟩
  | 107 => ⟨S_, .i32⟩
  | 108 => ⟨S_, .f32⟩
  | 109 => ⟨S1024, .f32⟩
  | 110 => ⟨S_, .i32⟩
  | 111 => ⟨S_, .f32⟩
  | 112 => ⟨S1024, .f32⟩
  | 113 => ⟨S_, .i32⟩
  | 114 => ⟨S_, .f32⟩
  | 115 => ⟨S1024, .f32⟩
  | 116 => ⟨S_, .i32⟩
  | 117 => ⟨S_, .f32⟩
  | 118 => ⟨S1024, .f32⟩
  | 119 => ⟨S_, .i32⟩
  | 120 => ⟨S_, .f32⟩
  | 121 => ⟨S1024, .f32⟩
  | 122 => ⟨S1000, .f32⟩
  | 123 => ⟨S_, .i32⟩
  | 124 => ⟨S_, .f32⟩
  | 125 => ⟨S1024, .f32⟩
  | 126 => ⟨S1x1024, .f32⟩
  | 127 => ⟨S1x1024, .f32⟩
  | _ => ⟨S20000x5, .f32⟩

abbrev hbmTy0_1 (i : Nat) : BufTy := match i % 128 with
  | 0 => ⟨S1x1024, .f32⟩
  | 1 => ⟨S1x1024, .f32⟩
  | 2 => ⟨S1x1024, .f32⟩
  | 3 => ⟨S1x1024, .f32⟩
  | 4 => ⟨S1x1024, .f32⟩
  | 5 => ⟨S1x1024, .f32⟩
  | 6 => ⟨S8x1024, .f32⟩
  | 7 => ⟨S_, .i32⟩
  | 8 => ⟨S_, .f32⟩
  | 9 => ⟨S1024, .f32⟩
  | 10 => ⟨S_, .i32⟩
  | 11 => ⟨S_, .f32⟩
  | 12 => ⟨S1024, .f32⟩
  | 13 => ⟨S_, .i32⟩
  | 14 => ⟨S_, .f32⟩
  | 15 => ⟨S1024, .f32⟩
  | 16 => ⟨S_, .i32⟩
  | 17 => ⟨S_, .f32⟩
  | 18 => ⟨S1024, .f32⟩
  | 19 => ⟨S_, .i32⟩
  | 20 => ⟨S_, .f32⟩
  | 21 => ⟨S1024, .f32⟩
  | 22 => ⟨S1024x1, .f32⟩
  | 23 => ⟨S1024x1, .f32⟩
  | 24 => ⟨S1024x1, .f32⟩
  | 25 => ⟨S1024x1, .f32⟩
  | 26 => ⟨S1024x1, .f32⟩
  | 27 => ⟨S1024x5, .f32⟩
  | 28 => ⟨S_, .i32⟩
  | 29 => ⟨S_, .f32⟩
  | 30 => ⟨S1024x128, .f32⟩
  | 31 => ⟨S1x1024, .f32⟩
  | 32 => ⟨S1x1000, .f32⟩
  | 33 => ⟨S1000, .f32⟩
  | 34 => ⟨S_, .f32⟩
  | 35 => ⟨S1000, .f32⟩
  | 36 => ⟨S1000, .i1⟩
  | 37 => ⟨S_, .f32⟩
  | 38 => ⟨S_, .f32⟩
  | 39 => ⟨S1000, .f32⟩
  | 40 => ⟨S1000, .f32⟩
  | 41 => ⟨S300, .f32⟩
  | 42 => ⟨S300, .i32⟩
  | 43 => ⟨S_, .i32⟩
  | 44 => ⟨S300, .i32⟩
  | 45 => ⟨S300, .i1⟩
  | 46 => ⟨S_, .i32⟩
  | 47 => ⟨S300, .i32⟩
  | 48 => ⟨S300, .i32⟩
  | 49 => ⟨S300, .i32⟩
  | 50 => ⟨S300x1, .i32⟩
  | 51 => ⟨S1, .i32⟩
  | 52 => ⟨S_, .i32⟩
  | 53 => ⟨S300x1, .i32⟩
  | 54 => ⟨S300x1, .i1⟩
  | 55 => ⟨S1x1, .i32⟩
  | 56 => ⟨S300x1, .i32⟩
  | 57 => ⟨S300x1, .i1⟩
  | 58 => ⟨S300x1, .i1⟩
  | 59 => ⟨S_, .i1⟩
  | 60 => ⟨S300, .i1⟩
  | 61 => ⟨S300x5, .f32⟩
  | 62 => ⟨S300x5, .i1⟩
  | 63 => ⟨S_, .f32⟩
  | 64 => ⟨S300x5, .f32⟩
  | 65 => ⟨S300x5, .f32⟩
  | 66 => ⟨S_, .i32⟩
  | 67 => ⟨S300, .i32⟩
  | 68 => ⟨S300, .i1⟩
  | 69 => ⟨S_, .i32⟩
  | 70 => ⟨S300, .i32⟩
  | 71 => ⟨S300, .i32⟩
  | 72 => ⟨S300, .i32⟩
  | 73 => ⟨S300x1, .i32⟩
  | 74 => ⟨S1, .i32⟩
  | 75 => ⟨S_, .i32⟩
  | 76 => ⟨S300x1, .i32⟩
  | 77 => ⟨S300x1, .i1⟩
  | 78 => ⟨S1x1, .i32⟩
  | 79 => ⟨S300x1, .i32⟩
  | 80 => ⟨S300x1, .i1⟩
  | 81 => ⟨S300x1, .i1⟩
  | 82 => ⟨S_, .i1⟩
  | 83 => ⟨S300, .i1⟩
  | 84 => ⟨S300, .i32⟩
  | 85 => ⟨S_, .i32⟩
  | 86 => ⟨S300, .i32⟩
  | 87 => ⟨S300, .i32⟩
  | 88 => ⟨S_, .f32⟩
  | 89 => ⟨S300, .f32⟩
  | 90 => ⟨S300, .i1⟩
  | 91 => ⟨S_, .f32⟩
  | 92 => ⟨S_, .f32⟩
  | 93 => ⟨S300, .f32⟩
  | 94 => ⟨S300, .f32⟩
  | 95 => ⟨S300x1, .i1⟩
  | 96 => ⟨S_, .f32⟩
  | 97 => ⟨S_, .f32⟩
  | 98 => ⟨S300x5, .i1⟩
  | 99 => ⟨S300x5, .f32⟩
  | 100 => ⟨S300x5, .f32⟩
  | 101 => ⟨S_, .i32⟩
  | 102 => ⟨S_, .i32⟩
  | 103 => ⟨S300, .i32⟩
  | 104 => ⟨S300, .i32⟩
  | _ => ⟨S20000x5, .f32⟩

abbrev hbmTy (i : Nat) : BufTy := match i / 128 with
  | 0 => hbmTy0_0 i
  | 1 => hbmTy0_1 i
  | _ => ⟨S20000x5, .f32⟩

abbrev bufTy : (tb : Table) → Fin (tcTables nBuf tb) → BufTy
  | .hbm, ⟨i, _⟩ => hbmTy i
  | .local _ .vmem, ⟨0, _⟩ => ⟨S8x1024, .f32⟩
  | .local _ .vmem, ⟨1, _⟩ => ⟨S1024x128, .f32⟩
  | .local _ .vmem, ⟨2, _⟩ => ⟨S1x1024, .f32⟩
  | .local _ .vmem, ⟨3, _⟩ => ⟨S1024x1024, .f32⟩
  | _, _ => ⟨S20000x5, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v3 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_c_4 : Ref sig .tc := ⟨.hbm, 54, rfl⟩
abbrev main_call2_v14 : Ref sig .tc := ⟨.hbm, 55, rfl⟩
abbrev main_v4 : Ref sig .tc := ⟨.hbm, 56, rfl⟩
abbrev main_cst_1 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_cst_2 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_3 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_cst_4 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_5 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_6 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_cst_7 : Ref sig .tc := ⟨.hbm, 105, rfl⟩
abbrev main_v47 : Ref sig .tc := ⟨.hbm, 106, rfl⟩
abbrev main_c : Ref sig .tc := ⟨.hbm, 107, rfl⟩
abbrev main_call3_v0 : Ref sig .tc := ⟨.hbm, 108, rfl⟩
abbrev main_v48 : Ref sig .tc := ⟨.hbm, 109, rfl⟩
abbrev main_c_8 : Ref sig .tc := ⟨.hbm, 110, rfl⟩
abbrev main_call4_v0 : Ref sig .tc := ⟨.hbm, 111, rfl⟩
abbrev main_v49 : Ref sig .tc := ⟨.hbm, 112, rfl⟩
abbrev main_c_9 : Ref sig .tc := ⟨.hbm, 113, rfl⟩
abbrev main_call5_v0 : Ref sig .tc := ⟨.hbm, 114, rfl⟩
abbrev main_v50 : Ref sig .tc := ⟨.hbm, 115, rfl⟩
abbrev main_c_10 : Ref sig .tc := ⟨.hbm, 116, rfl⟩
abbrev main_call6_v0 : Ref sig .tc := ⟨.hbm, 117, rfl⟩
abbrev main_v51 : Ref sig .tc := ⟨.hbm, 118, rfl⟩
abbrev main_c_11 : Ref sig .tc := ⟨.hbm, 119, rfl⟩
abbrev main_call7_v0 : Ref sig .tc := ⟨.hbm, 120, rfl⟩
abbrev main_v52 : Ref sig .tc := ⟨.hbm, 121, rfl⟩
abbrev main_v53 : Ref sig .tc := ⟨.hbm, 122, rfl⟩
abbrev main_c_12 : Ref sig .tc := ⟨.hbm, 123, rfl⟩
abbrev main_call8_v0 : Ref sig .tc := ⟨.hbm, 124, rfl⟩
abbrev main_v54 : Ref sig .tc := ⟨.hbm, 125, rfl⟩
abbrev main_v55 : Ref sig .tc := ⟨.hbm, 126, rfl⟩
abbrev main_v56 : Ref sig .tc := ⟨.hbm, 127, rfl⟩
abbrev main_v57 : Ref sig .tc := ⟨.hbm, 128, rfl⟩
abbrev main_v58 : Ref sig .tc := ⟨.hbm, 129, rfl⟩
abbrev main_v59 : Ref sig .tc := ⟨.hbm, 130, rfl⟩
abbrev main_v60 : Ref sig .tc := ⟨.hbm, 131, rfl⟩
abbrev main_v61 : Ref sig .tc := ⟨.hbm, 132, rfl⟩
abbrev main_v62 : Ref sig .tc := ⟨.hbm, 133, rfl⟩
abbrev main_v63 : Ref sig .tc := ⟨.hbm, 134, rfl⟩
abbrev main_c_13 : Ref sig .tc := ⟨.hbm, 135, rfl⟩
abbrev main_call9_v0 : Ref sig .tc := ⟨.hbm, 136, rfl⟩
abbrev main_v64 : Ref sig .tc := ⟨.hbm, 137, rfl⟩
abbrev main_c_14 : Ref sig .tc := ⟨.hbm, 138, rfl⟩
abbrev main_call10_v0 : Ref sig .tc := ⟨.hbm, 139, rfl⟩
abbrev main_v65 : Ref sig .tc := ⟨.hbm, 140, rfl⟩
abbrev main_c_15 : Ref sig .tc := ⟨.hbm, 141, rfl⟩
abbrev main_call11_v0 : Ref sig .tc := ⟨.hbm, 142, rfl⟩
abbrev main_v66 : Ref sig .tc := ⟨.hbm, 143, rfl⟩
abbrev main_c_16 : Ref sig .tc := ⟨.hbm, 144, rfl⟩
abbrev main_call12_v0 : Ref sig .tc := ⟨.hbm, 145, rfl⟩
abbrev main_v67 : Ref sig .tc := ⟨.hbm, 146, rfl⟩
abbrev main_c_17 : Ref sig .tc := ⟨.hbm, 147, rfl⟩
abbrev main_call13_v0 : Ref sig .tc := ⟨.hbm, 148, rfl⟩
abbrev main_v68 : Ref sig .tc := ⟨.hbm, 149, rfl⟩
abbrev main_v69 : Ref sig .tc := ⟨.hbm, 150, rfl⟩
abbrev main_v70 : Ref sig .tc := ⟨.hbm, 151, rfl⟩
abbrev main_v71 : Ref sig .tc := ⟨.hbm, 152, rfl⟩
abbrev main_v72 : Ref sig .tc := ⟨.hbm, 153, rfl⟩
abbrev main_v73 : Ref sig .tc := ⟨.hbm, 154, rfl⟩
abbrev main_v74 : Ref sig .tc := ⟨.hbm, 155, rfl⟩
abbrev main_c_18 : Ref sig .tc := ⟨.hbm, 156, rfl⟩
abbrev main_call14_v0 : Ref sig .tc := ⟨.hbm, 157, rfl⟩
abbrev main_v75 : Ref sig .tc := ⟨.hbm, 158, rfl⟩
abbrev main_v76 : Ref sig .tc := ⟨.hbm, 159, rfl⟩
abbrev main_v77 : Ref sig .tc := ⟨.hbm, 160, rfl⟩
abbrev main_v78 : Ref sig .tc := ⟨.hbm, 161, rfl⟩
abbrev main_cst_19 : Ref sig .tc := ⟨.hbm, 162, rfl⟩
abbrev main_v79 : Ref sig .tc := ⟨.hbm, 163, rfl⟩
abbrev main_v80 : Ref sig .tc := ⟨.hbm, 164, rfl⟩
abbrev main_cst_20 : Ref sig .tc := ⟨.hbm, 165, rfl⟩
abbrev main_call15_v0 : Ref sig .tc := ⟨.hbm, 166, rfl⟩
abbrev main_call15_v1 : Ref sig .tc := ⟨.hbm, 167, rfl⟩
abbrev main_v81 : Ref sig .tc := ⟨.hbm, 168, rfl⟩
abbrev main_values_21 : Ref sig .tc := ⟨.hbm, 169, rfl⟩
abbrev main_indices_22 : Ref sig .tc := ⟨.hbm, 170, rfl⟩
abbrev main_call16_c : Ref sig .tc := ⟨.hbm, 171, rfl⟩
abbrev main_call16_v0 : Ref sig .tc := ⟨.hbm, 172, rfl⟩
abbrev main_call16_v1 : Ref sig .tc := ⟨.hbm, 173, rfl⟩
abbrev main_call16_c_0 : Ref sig .tc := ⟨.hbm, 174, rfl⟩
abbrev main_call16_v2 : Ref sig .tc := ⟨.hbm, 175, rfl⟩
abbrev main_call16_v3 : Ref sig .tc := ⟨.hbm, 176, rfl⟩
abbrev main_call16_v4 : Ref sig .tc := ⟨.hbm, 177, rfl⟩
abbrev main_call16_v5 : Ref sig .tc := ⟨.hbm, 178, rfl⟩
abbrev main_call16_c_1 : Ref sig .tc := ⟨.hbm, 179, rfl⟩
abbrev main_call16_c_2 : Ref sig .tc := ⟨.hbm, 180, rfl⟩
abbrev main_call16_v6 : Ref sig .tc := ⟨.hbm, 181, rfl⟩
abbrev main_call16_v7 : Ref sig .tc := ⟨.hbm, 182, rfl⟩
abbrev main_call16_v8 : Ref sig .tc := ⟨.hbm, 183, rfl⟩
abbrev main_call16_v9 : Ref sig .tc := ⟨.hbm, 184, rfl⟩
abbrev main_call16_v10 : Ref sig .tc := ⟨.hbm, 185, rfl⟩
abbrev main_call16_v11 : Ref sig .tc := ⟨.hbm, 186, rfl⟩
abbrev main_call16_c_3 : Ref sig .tc := ⟨.hbm, 187, rfl⟩
abbrev main_call16_v12 : Ref sig .tc := ⟨.hbm, 188, rfl⟩
abbrev main_call16_v13 : Ref sig .tc := ⟨.hbm, 189, rfl⟩
abbrev main_call16_v14 : Ref sig .tc := ⟨.hbm, 190, rfl⟩
abbrev main_call16_cst : Ref sig .tc := ⟨.hbm, 191, rfl⟩
abbrev main_call16_v15 : Ref sig .tc := ⟨.hbm, 192, rfl⟩
abbrev main_v82 : Ref sig .tc := ⟨.hbm, 193, rfl⟩
abbrev main_call17_c : Ref sig .tc := ⟨.hbm, 194, rfl⟩
abbrev main_call17_v0 : Ref sig .tc := ⟨.hbm, 195, rfl⟩
abbrev main_call17_v1 : Ref sig .tc := ⟨.hbm, 196, rfl⟩
abbrev main_call17_c_0 : Ref sig .tc := ⟨.hbm, 197, rfl⟩
abbrev main_call17_v2 : Ref sig .tc := ⟨.hbm, 198, rfl⟩
abbrev main_call17_v3 : Ref sig .tc := ⟨.hbm, 199, rfl⟩
abbrev main_call17_v4 : Ref sig .tc := ⟨.hbm, 200, rfl⟩
abbrev main_call17_v5 : Ref sig .tc := ⟨.hbm, 201, rfl⟩
abbrev main_call17_c_1 : Ref sig .tc := ⟨.hbm, 202, rfl⟩
abbrev main_call17_c_2 : Ref sig .tc := ⟨.hbm, 203, rfl⟩
abbrev main_call17_v6 : Ref sig .tc := ⟨.hbm, 204, rfl⟩
abbrev main_call17_v7 : Ref sig .tc := ⟨.hbm, 205, rfl⟩
abbrev main_call17_v8 : Ref sig .tc := ⟨.hbm, 206, rfl⟩
abbrev main_call17_v9 : Ref sig .tc := ⟨.hbm, 207, rfl⟩
abbrev main_call17_v10 : Ref sig .tc := ⟨.hbm, 208, rfl⟩
abbrev main_call17_v11 : Ref sig .tc := ⟨.hbm, 209, rfl⟩
abbrev main_call17_c_3 : Ref sig .tc := ⟨.hbm, 210, rfl⟩
abbrev main_call17_v12 : Ref sig .tc := ⟨.hbm, 211, rfl⟩
abbrev main_call17_v13 : Ref sig .tc := ⟨.hbm, 212, rfl⟩
abbrev main_call17_c_4 : Ref sig .tc := ⟨.hbm, 213, rfl⟩
abbrev main_call17_v14 : Ref sig .tc := ⟨.hbm, 214, rfl⟩
abbrev main_v83 : Ref sig .tc := ⟨.hbm, 215, rfl⟩
abbrev main_cst_23 : Ref sig .tc := ⟨.hbm, 216, rfl⟩
abbrev main_v84 : Ref sig .tc := ⟨.hbm, 217, rfl⟩
abbrev main_v85 : Ref sig .tc := ⟨.hbm, 218, rfl⟩
abbrev main_cst_24 : Ref sig .tc := ⟨.hbm, 219, rfl⟩
abbrev main_call18_v0 : Ref sig .tc := ⟨.hbm, 220, rfl⟩
abbrev main_call18_v1 : Ref sig .tc := ⟨.hbm, 221, rfl⟩
abbrev main_v86 : Ref sig .tc := ⟨.hbm, 222, rfl⟩
abbrev main_v87 : Ref sig .tc := ⟨.hbm, 223, rfl⟩
abbrev main_cst_25 : Ref sig .tc := ⟨.hbm, 224, rfl⟩
abbrev main_call19_v0 : Ref sig .tc := ⟨.hbm, 225, rfl⟩
abbrev main_call19_v1 : Ref sig .tc := ⟨.hbm, 226, rfl⟩
abbrev main_call19_v2 : Ref sig .tc := ⟨.hbm, 227, rfl⟩
abbrev main_v88 : Ref sig .tc := ⟨.hbm, 228, rfl⟩
abbrev main_c_26 : Ref sig .tc := ⟨.hbm, 229, rfl⟩
abbrev main_call20_v0 : Ref sig .tc := ⟨.hbm, 230, rfl⟩
abbrev main_call20_v1 : Ref sig .tc := ⟨.hbm, 231, rfl⟩
abbrev main_v89 : Ref sig .tc := ⟨.hbm, 232, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

def k0_off1 (c0_i32 : BitVec 32) : Fin 2 → Nat :=
  let c8_i32 : BitVec 32 := 8#32
  let v12 : BitVec 32 := Scalar.muli c0_i32 c8_i32
  let v13 : Index := Scalar.indexCast v12
  let c0_6 : Index := 0#32
  ![v13.toNat, 0]
def k0_off2 (c0_i32 : BitVec 32) : Fin 2 → Nat :=
  let c8_i32 : BitVec 32 := 8#32
  let v12 : BitVec 32 := Scalar.muli c0_i32 c8_i32
  let v16 : Index := Scalar.indexCast v12
  let c1_7 : Index := 1#32
  ![v16.toNat, 1]
def k0_off3 (c0_i32 : BitVec 32) : Fin 2 → Nat :=
  let c8_i32 : BitVec 32 := 8#32
  let v12 : BitVec 32 := Scalar.muli c0_i32 c8_i32
  let v19 : Index := Scalar.indexCast v12
  let c2_8 : Index := 2#32
  ![v19.toNat, 2]
def k0_off4 (c0_i32 : BitVec 32) : Fin 2 → Nat :=
  let c8_i32 : BitVec 32 := 8#32
  let v12 : BitVec 32 := Scalar.muli c0_i32 c8_i32
  let v22 : Index := Scalar.indexCast v12
  let c3_9 : Index := 3#32
  ![v22.toNat, 3]
def k0_off5 (c0_i32 : BitVec 32) : Fin 2 → Nat :=
  let c8_i32 : BitVec 32 := 8#32
  let v12 : BitVec 32 := Scalar.muli c0_i32 c8_i32
  let v25 : Index := Scalar.indexCast v12
  let c4_10 : Index := 4#32
  ![v25.toNat, 4]
def k0_off6 (c0_i32 : BitVec 32) : Fin 2 → Nat :=
  let c8_i32 : BitVec 32 := 8#32
  let v12 : BitVec 32 := Scalar.muli c0_i32 c8_i32
  let v58 : Index := Scalar.indexCast v12
  let c0_14 : Index := 0#32
  ![v58.toNat, 0]
@[reducible] def k0_t1_loop : Scf.Loop 32 :=
  let c0_i32_1415 : BitVec 32 := 0#32
  let c1024_i32 : BitVec 32 := 1024#32
  let v6415 : BitVec 32 := Scalar.addi c0_i32_1415 c1024_i32
  let c1_i32_1416 : BitVec 32 := 1#32
  ⟨c0_i32_1415, v6415, c1_i32_1416⟩
def k0_off7 (k0_t1 : Fin k0_t1_loop.trips) : Fin 2 → Nat :=
  let c0_i32_1415 : BitVec 32 := 0#32
  let c1_i32_1416 : BitVec 32 := 1#32
  let arg4 : BitVec 32 := Scf.iv c0_i32_1415 c1_i32_1416 k0_t1
  let v6418 : Index := Scalar.indexCast arg4
  let c0_1420 : Index := 0#32
  ![v6418.toNat, 0]
abbrev stage0_0 : Fin 1 → Memref sig .tc .vmem S8x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S20000x5 : Shape := ⟨2, ![20000, 5]⟩
abbrev S20000 : Shape := ⟨1, ![20000]⟩
abbrev S_ : Shape := ⟨0, ![]⟩
abbrev S1000 : Shape := ⟨1, ![1000]⟩
abbrev S1000x1 : Shape := ⟨2, ![1000, 1]⟩
abbrev S1 : Shape := ⟨1, ![1]⟩
abbrev S1x1 : Shape := ⟨2, ![1, 1]⟩
abbrev S1000x5 : Shape := ⟨2, ![1000, 5]⟩
abbrev S1x1000 : Shape := ⟨2, ![1, 1000]⟩
abbrev S1000x1000 : Shape := ⟨2, ![1000, 1000]⟩
abbrev S300 : Shape := ⟨1, ![300]⟩
abbrev S300x1 : Shape := ⟨2, ![300, 1]⟩
abbrev S300x5 : Shape := ⟨2, ![300, 5]⟩

abbrev nBuf : Space → Nat
  | .hbm => 277
  | .vmem => 0
  | .smem => 0
  | _ => 0

abbrev hbmTy0_0 (i : Nat) : BufTy := match i % 128 with
  | 0 => ⟨S20000x5, .f32⟩
  | 1 => ⟨S20000, .f32⟩
  | 2 => ⟨S20000, .i32⟩
  | 3 => ⟨S_, .f32⟩
  | 4 => ⟨S20000, .f32⟩
  | 5 => ⟨S20000, .i1⟩
  | 6 => ⟨S_, .f32⟩
  | 7 => ⟨S_, .f32⟩
  | 8 => ⟨S20000, .f32⟩
  | 9 => ⟨S20000, .f32⟩
  | 10 => ⟨S1000, .f32⟩
  | 11 => ⟨S1000, .i32⟩
  | 12 => ⟨S_, .i32⟩
  | 13 => ⟨S1000, .i32⟩
  | 14 => ⟨S1000, .i1⟩
  | 15 => ⟨S_, .i32⟩
  | 16 => ⟨S1000, .i32⟩
  | 17 => ⟨S1000, .i32⟩
  | 18 => ⟨S1000, .i32⟩
  | 19 => ⟨S1000x1, .i32⟩
  | 20 => ⟨S1, .i32⟩
  | 21 => ⟨S_, .i32⟩
  | 22 => ⟨S1000x1, .i32⟩
  | 23 => ⟨S1000x1, .i1⟩
  | 24 => ⟨S1x1, .i32⟩
  | 25 => ⟨S1000x1, .i32⟩
  | 26 => ⟨S1000x1, .i1⟩
  | 27 => ⟨S1000x1, .i1⟩
  | 28 => ⟨S_, .i1⟩
  | 29 => ⟨S1000, .i1⟩
  | 30 => ⟨S1000x5, .f32⟩
  | 31 => ⟨S1000x5, .i1⟩
  | 32 => ⟨S_, .f32⟩
  | 33 => ⟨S1000x5, .f32⟩
  | 34 => ⟨S1000x5, .f32⟩
  | 35 => ⟨S_, .i32⟩
  | 36 => ⟨S1000, .i32⟩
  | 37 => ⟨S1000, .i1⟩
  | 38 => ⟨S_, .i32⟩
  | 39 => ⟨S1000, .i32⟩
  | 40 => ⟨S1000, .i32⟩
  | 41 => ⟨S1000, .i32⟩
  | 42 => ⟨S1000x1, .i32⟩
  | 43 => ⟨S1, .i32⟩
  | 44 => ⟨S_, .i32⟩
  | 45 => ⟨S1000x1, .i32⟩
  | 46 => ⟨S1000x1, .i1⟩
  | 47 => ⟨S1x1, .i32⟩
  | 48 => ⟨S1000x1, .i32⟩
  | 49 => ⟨S1000x1, .i1⟩
  | 50 => ⟨S1000x1, .i1⟩
  | 51 => ⟨S_, .i1⟩
  | 52 => ⟨S1000, .i1⟩
  | 53 => ⟨S1000, .i32⟩
  | 54 => ⟨S_, .i32⟩
  | 55 => ⟨S1000, .i32⟩
  | 56 => ⟨S1000, .i32⟩
  | 57 => ⟨S_, .f32⟩
  | 58 => ⟨S1000, .f32⟩
  | 59 => ⟨S1000, .i1⟩
  | 60 => ⟨S1000, .f32⟩
  | 61 => ⟨S_, .f32⟩
  | 62 => ⟨S1000, .f32⟩
  | 63 => ⟨S1000, .f32⟩
  | 64 => ⟨S1000x1, .f32⟩
  | 65 => ⟨S1000, .f32⟩
  | 66 => ⟨S1000, .f32⟩
  | 67 => ⟨S1000x1, .f32⟩
  | 68 => ⟨S1000, .f32⟩
  | 69 => ⟨S1000, .f32⟩
  | 70 => ⟨S1000x1, .f32⟩
  | 71 => ⟨S1000, .f32⟩
  | 72 => ⟨S1000x1, .f32⟩
  | 73 => ⟨S1000, .f32⟩
  | 74 => ⟨S1000x1, .f32⟩
  | 75 => ⟨S1000, .f32⟩
  | 76 => ⟨S1000, .f32⟩
  | 77 => ⟨S1000, .f32⟩
  | 78 => ⟨S1000, .f32⟩
  | 79 => ⟨S1000, .f32⟩
  | 80 => ⟨S1000, .f32⟩
  | 81 => ⟨S1000, .f32⟩
  | 82 => ⟨S1000, .f32⟩
  | 83 => ⟨S1000, .f32⟩
  | 84 => ⟨S1000, .f32⟩
  | 85 => ⟨S1000, .f32⟩
  | 86 => ⟨S_, .f32⟩
  | 87 => ⟨S1000, .f32⟩
  | 88 => ⟨S1000, .f32⟩
  | 89 => ⟨S1000, .f32⟩
  | 90 => ⟨S_, .f32⟩
  | 91 => ⟨S1000, .f32⟩
  | 92 => ⟨S1000, .f32⟩
  | 93 => ⟨S1000, .f32⟩
  | 94 => ⟨S_, .f32⟩
  | 95 => ⟨S1000, .f32⟩
  | 96 => ⟨S1000, .f32⟩
  | 97 => ⟨S1000, .f32⟩
  | 98 => ⟨S_, .f32⟩
  | 99 => ⟨S1000, .f32⟩
  | 100 => ⟨S1000, .f32⟩
  | 101 => ⟨S1000, .f32⟩
  | 102 => ⟨S1000, .f32⟩
  | 103 => ⟨S1000, .f32⟩
  | 104 => ⟨S1000, .f32⟩
  | 105 => ⟨S1000x1, .f32⟩
  | 106 => ⟨S1x1000, .f32⟩
  | 107 => ⟨S1000x1000, .f32⟩
  | 108 => ⟨S1000x1000, .f32⟩
  | 109 => ⟨S1000x1000, .f32⟩
  | 110 => ⟨S1000x1, .f32⟩
  | 111 => ⟨S1x1000, .f32⟩
  | 112 => ⟨S1000x1000, .f32⟩
  | 113 => ⟨S1000x1000, .f32⟩
  | 114 => ⟨S1000x1000, .f32⟩
  | 115 => ⟨S1000x1, .f32⟩
  | 116 => ⟨S1x1000, .f32⟩
  | 117 => ⟨S1000x1000, .f32⟩
  | 118 => ⟨S1000x1000, .f32⟩
  | 119 => ⟨S1000x1000, .f32⟩
  | 120 => ⟨S1000x1, .f32⟩
  | 121 => ⟨S1x1000, .f32⟩
  | 122 => ⟨S1000x1000, .f32⟩
  | 123 => ⟨S1000x1000, .f32⟩
  | 124 => ⟨S1000x1000, .f32⟩
  | 125 => ⟨S1000x1000, .f32⟩
  | 126 => ⟨S_, .f32⟩
  | 127 => ⟨S1000x1000, .f32⟩
  | _ => ⟨S20000x5, .f32⟩

abbrev hbmTy0_1 (i : Nat) : BufTy := match i % 128 with
  | 0 => ⟨S1000x1000, .f32⟩
  | 1 => ⟨S1000x1000, .f32⟩
  | 2 => ⟨S_, .f32⟩
  | 3 => ⟨S1000x1000, .f32⟩
  | 4 => ⟨S1000x1000, .f32⟩
  | 5 => ⟨S1000x1000, .f32⟩
  | 6 => ⟨S1000x1, .f32⟩
  | 7 => ⟨S1x1000, .f32⟩
  | 8 => ⟨S1000x1000, .f32⟩
  | 9 => ⟨S1000x1000, .f32⟩
  | 10 => ⟨S1000x1000, .f32⟩
  | 11 => ⟨S1000x1000, .f32⟩
  | 12 => ⟨S_, .f32⟩
  | 13 => ⟨S1000x1000, .f32⟩
  | 14 => ⟨S1000x1000, .f32⟩
  | 15 => ⟨S1000x1000, .f32⟩
  | 16 => ⟨S_, .i1⟩
  | 17 => ⟨S1000, .i1⟩
  | 18 => ⟨S_, .i1⟩
  | 19 => ⟨S1000, .i1⟩
  | 20 => ⟨S_, .i32⟩
  | 21 => ⟨S_, .i32⟩
  | 22 => ⟨S1000, .i1⟩
  | 23 => ⟨S1000x1000, .f32⟩
  | 24 => ⟨S_, .i32⟩
  | 25 => ⟨S_, .i32⟩
  | 26 => ⟨S1000, .i1⟩
  | 27 => ⟨S1000, .i1⟩
  | 28 => ⟨S_, .i32⟩
  | 29 => ⟨S_, .i1⟩
  | 30 => ⟨S_, .i32⟩
  | 31 => ⟨S_, .i32⟩
  | 32 => ⟨S_, .i32⟩
  | 33 => ⟨S_, .i1⟩
  | 34 => ⟨S_, .i32⟩
  | 35 => ⟨S_, .i32⟩
  | 36 => ⟨S_, .i32⟩
  | 37 => ⟨S_, .i32⟩
  | 38 => ⟨S1, .i1⟩
  | 39 => ⟨S_, .i1⟩
  | 40 => ⟨S_, .i32⟩
  | 41 => ⟨S_, .i1⟩
  | 42 => ⟨S_, .i32⟩
  | 43 => ⟨S_, .i32⟩
  | 44 => ⟨S_, .i32⟩
  | 45 => ⟨S_, .i32⟩
  | 46 => ⟨S1, .i1⟩
  | 47 => ⟨S_, .i1⟩
  | 48 => ⟨S_, .i1⟩
  | 49 => ⟨S_, .i1⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S1, .i32⟩
  | 57 => ⟨S1000, .i1⟩
  | 58 => ⟨S_, .i32⟩
  | 59 => ⟨S_, .i32⟩
  | 60 => ⟨S_, .i1⟩
  | 61 => ⟨S_, .i32⟩
  | 62 => ⟨S_, .i32⟩
  | 63 => ⟨S_, .i32⟩
  | 64 => ⟨S_, .i32⟩
  | 65 => ⟨S_, .i32⟩
  | 66 => ⟨S_, .i1⟩
  | 67 => ⟨S_, .i32⟩
  | 68 => ⟨S_, .i32⟩
  | 69 => ⟨S_, .i32⟩
  | 70 => ⟨S_, .i32⟩
  | 71 => ⟨S_, .i32⟩
  | 72 => ⟨S1x1000, .f32⟩
  | 73 => ⟨S1000, .f32⟩
  | 74 => ⟨S_, .f32⟩
  | 75 => ⟨S1000, .f32⟩
  | 76 => ⟨S1000, .i1⟩
  | 77 => ⟨S1000, .i1⟩
  | 78 => ⟨S1000, .i1⟩
  | 79 => ⟨S_, .i32⟩
  | 80 => ⟨S_, .i32⟩
  | 81 => ⟨S_, .f32⟩
  | 82 => ⟨S_, .f32⟩
  | 83 => ⟨S1000, .f32⟩
  | 84 => ⟨S1000, .f32⟩
  | 85 => ⟨S300, .f32⟩
  | 86 => ⟨S300, .i32⟩
  | 87 => ⟨S_, .i32⟩
  | 88 => ⟨S300, .i32⟩
  | 89 => ⟨S300, .i1⟩
  | 90 => ⟨S_, .i32⟩
  | 91 => ⟨S300, .i32⟩
  | 92 => ⟨S300, .i32⟩
  | 93 => ⟨S300, .i32⟩
  | 94 => ⟨S300x1, .i32⟩
  | 95 => ⟨S1, .i32⟩
  | 96 => ⟨S_, .i32⟩
  | 97 => ⟨S300x1, .i32⟩
  | 98 => ⟨S300x1, .i1⟩
  | 99 => ⟨S1x1, .i32⟩
  | 100 => ⟨S300x1, .i32⟩
  | 101 => ⟨S300x1, .i1⟩
  | 102 => ⟨S300x1, .i1⟩
  | 103 => ⟨S_, .i1⟩
  | 104 => ⟨S300, .i1⟩
  | 105 => ⟨S300x5, .f32⟩
  | 106 => ⟨S300x5, .i1⟩
  | 107 => ⟨S_, .f32⟩
  | 108 => ⟨S300x5, .f32⟩
  | 109 => ⟨S300x5, .f32⟩
  | 110 => ⟨S_, .i32⟩
  | 111 => ⟨S300, .i32⟩
  | 112 => ⟨S300, .i1⟩
  | 113 => ⟨S_, .i32⟩
  | 114 => ⟨S300, .i32⟩
  | 115 => ⟨S300, .i32⟩
  | 116 => ⟨S300, .i32⟩
  | 117 => ⟨S300x1, .i32⟩
  | 118 => ⟨S1, .i32⟩
  | 119 => ⟨S_, .i32⟩
  | 120 => ⟨S300x1, .i32⟩
  | 121 => ⟨S300x1, .i1⟩
  | 122 => ⟨S1x1, .i32⟩
  | 123 => ⟨S300x1, .i32⟩
  | 124 => ⟨S300x1, .i1⟩
  | 125 => ⟨S300x1, .i1⟩
  | 126 => ⟨S_, .i1⟩
  | 127 => ⟨S300, .i1⟩
  | _ => ⟨S20000x5, .f32⟩

abbrev hbmTy0_2 (i : Nat) : BufTy := match i % 128 with
  | 0 => ⟨S300, .i32⟩
  | 1 => ⟨S_, .i32⟩
  | 2 => ⟨S300, .i32⟩
  | 3 => ⟨S300, .i32⟩
  | 4 => ⟨S_, .f32⟩
  | 5 => ⟨S300, .f32⟩
  | 6 => ⟨S300, .i1⟩
  | 7 => ⟨S_, .f32⟩
  | 8 => ⟨S_, .f32⟩
  | 9 => ⟨S300, .f32⟩
  | 10 => ⟨S300, .f32⟩
  | 11 => ⟨S300x1, .i1⟩
  | 12 => ⟨S_, .f32⟩
  | 13 => ⟨S_, .f32⟩
  | 14 => ⟨S300x5, .i1⟩
  | 15 => ⟨S300x5, .f32⟩
  | 16 => ⟨S300x5, .f32⟩
  | 17 => ⟨S_, .i32⟩
  | 18 => ⟨S_, .i32⟩
  | 19 => ⟨S300, .i32⟩
  | 20 => ⟨S300, .i32⟩
  | _ => ⟨S20000x5, .f32⟩

abbrev hbmTy (i : Nat) : BufTy := match i / 128 with
  | 0 => hbmTy0_0 i
  | 1 => hbmTy0_1 i
  | 2 => hbmTy0_2 i
  | _ => ⟨S20000x5, .f32⟩

abbrev bufTy : (tb : Table) → Fin (tcTables nBuf tb) → BufTy
  | .hbm, ⟨i, _⟩ => hbmTy i
  | _, _ => ⟨S20000x5, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_cst_0 : Ref sig .tc := ⟨.hbm, 6, rfl⟩
abbrev main_call0_v0 : Ref sig .tc := ⟨.hbm, 7, rfl⟩
abbrev main_call0_v1 : Ref sig .tc := ⟨.hbm, 8, rfl⟩
abbrev main_v2 : Ref sig .tc := ⟨.hbm, 9, rfl⟩
abbrev main_values : Ref sig .tc := ⟨.hbm, 10, rfl⟩
abbrev main_indices : Ref sig .tc := ⟨.hbm, 11, rfl⟩
abbrev main_call1_c : Ref sig .tc := ⟨.hbm, 12, rfl⟩
abbrev main_call1_v0 : Ref sig .tc := ⟨.hbm, 13, rfl⟩
abbrev main_call1_v1 : Ref sig .tc := ⟨.hbm, 14, rfl⟩
abbrev main_call1_c_0 : Ref sig .tc := ⟨.hbm, 15, rfl⟩
abbrev main_call1_v2 : Ref sig .tc := ⟨.hbm, 16, rfl⟩
abbrev main_call1_v3 : Ref sig .tc := ⟨.hbm, 17, rfl⟩
abbrev main_call1_v4 : Ref sig .tc := ⟨.hbm, 18, rfl⟩
abbrev main_call1_v5 : Ref sig .tc := ⟨.hbm, 19, rfl⟩
abbrev main_call1_c_1 : Ref sig .tc := ⟨.hbm, 20, rfl⟩
abbrev main_call1_c_2 : Ref sig .tc := ⟨.hbm, 21, rfl⟩
abbrev main_call1_v6 : Ref sig .tc := ⟨.hbm, 22, rfl⟩
abbrev main_call1_v7 : Ref sig .tc := ⟨.hbm, 23, rfl⟩
abbrev main_call1_v8 : Ref sig .tc := ⟨.hbm, 24, rfl⟩
abbrev main_call1_v9 : Ref sig .tc := ⟨.hbm, 25, rfl⟩
abbrev main_call1_v10 : Ref sig .tc := ⟨.hbm, 26, rfl⟩
abbrev main_call1_v11 : Ref sig .tc := ⟨.hbm, 27, rfl⟩
abbrev main_call1_c_3 : Ref sig .tc := ⟨.hbm, 28, rfl⟩
abbrev main_call1_v12 : Ref sig .tc := ⟨.hbm, 29, rfl⟩
abbrev main_call1_v13 : Ref sig .tc := ⟨.hbm, 30, rfl⟩
abbrev main_call1_v14 : Ref sig .tc := ⟨.hbm, 31, rfl⟩
abbrev main_call1_cst : Ref sig .tc := ⟨.hbm, 32, rfl⟩
abbrev main_call1_v15 : Ref sig .tc := ⟨.hbm, 33, rfl⟩
abbrev main_v3 : Ref sig .tc := ⟨.hbm, 34, rfl⟩
abbrev main_call2_c : Ref sig .tc := ⟨.hbm, 35, rfl⟩
abbrev main_call2_v0 : Ref sig .tc := ⟨.hbm, 36, rfl⟩
abbrev main_call2_v1 : Ref sig .tc := ⟨.hbm, 37, rfl⟩
abbrev main_call2_c_0 : Ref sig .tc := ⟨.hbm, 38, rfl⟩
abbrev main_call2_v2 : Ref sig .tc := ⟨.hbm, 39, rfl⟩
abbrev main_call2_v3 : Ref sig .tc := ⟨.hbm, 40, rfl⟩
abbrev main_call2_v4 : Ref sig .tc := ⟨.hbm, 41, rfl⟩
abbrev main_call2_v5 : Ref sig .tc := ⟨.hbm, 42, rfl⟩
abbrev main_call2_c_1 : Ref sig .tc := ⟨.hbm, 43, rfl⟩
abbrev main_call2_c_2 : Ref sig .tc := ⟨.hbm, 44, rfl⟩
abbrev main_call2_v6 : Ref sig .tc := ⟨.hbm, 45, rfl⟩
abbrev main_call2_v7 : Ref sig .tc := ⟨.hbm, 46, rfl⟩
abbrev main_call2_v8 : Ref sig .tc := ⟨.hbm, 47, rfl⟩
abbrev main_call2_v9 : Ref sig .tc := ⟨.hbm, 48, rfl⟩
abbrev main_call2_v10 : Ref sig .tc := ⟨.hbm, 49, rfl⟩
abbrev main_call2_v11 : Ref sig .tc := ⟨.hbm, 50, rfl⟩
abbrev main_call2_c_3 : Ref sig .tc := ⟨.hbm, 51, rfl⟩
abbrev main_call2_v12 : Ref sig .tc := ⟨.hbm, 52, rfl⟩
abbrev main_call2_v13 : Ref sig .tc := ⟨.hbm, 53, rfl⟩
abbrev main_call2_c_4 : Ref sig .tc := ⟨.hbm, 54, rfl⟩
abbrev main_call2_v14 : Ref sig .tc := ⟨.hbm, 55, rfl⟩
abbrev main_v4 : Ref sig .tc := ⟨.hbm, 56, rfl⟩
abbrev main_cst_1 : Ref sig .tc := ⟨.hbm, 57, rfl⟩
abbrev main_v5 : Ref sig .tc := ⟨.hbm, 58, rfl⟩
abbrev main_v6 : Ref sig .tc := ⟨.hbm, 59, rfl⟩
abbrev main_v7 : Ref sig .tc := ⟨.hbm, 60, rfl⟩
abbrev main_cst_2 : Ref sig .tc := ⟨.hbm, 61, rfl⟩
abbrev main_v8 : Ref sig .tc := ⟨.hbm, 62, rfl⟩
abbrev main_v9 : Ref sig .tc := ⟨.hbm, 63, rfl⟩
abbrev main_v10 : Ref sig .tc := ⟨.hbm, 64, rfl⟩
abbrev main_v11 : Ref sig .tc := ⟨.hbm, 65, rfl⟩
abbrev main_v12 : Ref sig .tc := ⟨.hbm, 66, rfl⟩
abbrev main_v13 : Ref sig .tc := ⟨.hbm, 67, rfl⟩
abbrev main_v14 : Ref sig .tc := ⟨.hbm, 68, rfl⟩
abbrev main_v15 : Ref sig .tc := ⟨.hbm, 69, rfl⟩
abbrev main_v16 : Ref sig .tc := ⟨.hbm, 70, rfl⟩
abbrev main_v17 : Ref sig .tc := ⟨.hbm, 71, rfl⟩
abbrev main_v18 : Ref sig .tc := ⟨.hbm, 72, rfl⟩
abbrev main_v19 : Ref sig .tc := ⟨.hbm, 73, rfl⟩
abbrev main_v20 : Ref sig .tc := ⟨.hbm, 74, rfl⟩
abbrev main_v21 : Ref sig .tc := ⟨.hbm, 75, rfl⟩
abbrev main_v22 : Ref sig .tc := ⟨.hbm, 76, rfl⟩
abbrev main_v23 : Ref sig .tc := ⟨.hbm, 77, rfl⟩
abbrev main_v24 : Ref sig .tc := ⟨.hbm, 78, rfl⟩
abbrev main_v25 : Ref sig .tc := ⟨.hbm, 79, rfl⟩
abbrev main_v26 : Ref sig .tc := ⟨.hbm, 80, rfl⟩
abbrev main_v27 : Ref sig .tc := ⟨.hbm, 81, rfl⟩
abbrev main_v28 : Ref sig .tc := ⟨.hbm, 82, rfl⟩
abbrev main_v29 : Ref sig .tc := ⟨.hbm, 83, rfl⟩
abbrev main_v30 : Ref sig .tc := ⟨.hbm, 84, rfl⟩
abbrev main_v31 : Ref sig .tc := ⟨.hbm, 85, rfl⟩
abbrev main_cst_3 : Ref sig .tc := ⟨.hbm, 86, rfl⟩
abbrev main_v32 : Ref sig .tc := ⟨.hbm, 87, rfl⟩
abbrev main_v33 : Ref sig .tc := ⟨.hbm, 88, rfl⟩
abbrev main_v34 : Ref sig .tc := ⟨.hbm, 89, rfl⟩
abbrev main_cst_4 : Ref sig .tc := ⟨.hbm, 90, rfl⟩
abbrev main_v35 : Ref sig .tc := ⟨.hbm, 91, rfl⟩
abbrev main_v36 : Ref sig .tc := ⟨.hbm, 92, rfl⟩
abbrev main_v37 : Ref sig .tc := ⟨.hbm, 93, rfl⟩
abbrev main_cst_5 : Ref sig .tc := ⟨.hbm, 94, rfl⟩
abbrev main_v38 : Ref sig .tc := ⟨.hbm, 95, rfl⟩
abbrev main_v39 : Ref sig .tc := ⟨.hbm, 96, rfl⟩
abbrev main_v40 : Ref sig .tc := ⟨.hbm, 97, rfl⟩
abbrev main_cst_6 : Ref sig .tc := ⟨.hbm, 98, rfl⟩
abbrev main_v41 : Ref sig .tc := ⟨.hbm, 99, rfl⟩
abbrev main_v42 : Ref sig .tc := ⟨.hbm, 100, rfl⟩
abbrev main_v43 : Ref sig .tc := ⟨.hbm, 101, rfl⟩
abbrev main_v44 : Ref sig .tc := ⟨.hbm, 102, rfl⟩
abbrev main_v45 : Ref sig .tc := ⟨.hbm, 103, rfl⟩
abbrev main_v46 : Ref sig .tc := ⟨.hbm, 104, rfl⟩
abbrev main_v47 : Ref sig .tc := ⟨.hbm, 105, rfl⟩
abbrev main_v48 : Ref sig .tc := ⟨.hbm, 106, rfl⟩
abbrev main_v49 : Ref sig .tc := ⟨.hbm, 107, rfl⟩
abbrev main_v50 : Ref sig .tc := ⟨.hbm, 108, rfl⟩
abbrev main_v51 : Ref sig .tc := ⟨.hbm, 109, rfl⟩
abbrev main_v52 : Ref sig .tc := ⟨.hbm, 110, rfl⟩
abbrev main_v53 : Ref sig .tc := ⟨.hbm, 111, rfl⟩
abbrev main_v54 : Ref sig .tc := ⟨.hbm, 112, rfl⟩
abbrev main_v55 : Ref sig .tc := ⟨.hbm, 113, rfl⟩
abbrev main_v56 : Ref sig .tc := ⟨.hbm, 114, rfl⟩
abbrev main_v57 : Ref sig .tc := ⟨.hbm, 115, rfl⟩
abbrev main_v58 : Ref sig .tc := ⟨.hbm, 116, rfl⟩
abbrev main_v59 : Ref sig .tc := ⟨.hbm, 117, rfl⟩
abbrev main_v60 : Ref sig .tc := ⟨.hbm, 118, rfl⟩
abbrev main_v61 : Ref sig .tc := ⟨.hbm, 119, rfl⟩
abbrev main_v62 : Ref sig .tc := ⟨.hbm, 120, rfl⟩
abbrev main_v63 : Ref sig .tc := ⟨.hbm, 121, rfl⟩
abbrev main_v64 : Ref sig .tc := ⟨.hbm, 122, rfl⟩
abbrev main_v65 : Ref sig .tc := ⟨.hbm, 123, rfl⟩
abbrev main_v66 : Ref sig .tc := ⟨.hbm, 124, rfl⟩
abbrev main_v67 : Ref sig .tc := ⟨.hbm, 125, rfl⟩
abbrev main_cst_7 : Ref sig .tc := ⟨.hbm, 126, rfl⟩
abbrev main_v68 : Ref sig .tc := ⟨.hbm, 127, rfl⟩
abbrev main_v69 : Ref sig .tc := ⟨.hbm, 128, rfl⟩
abbrev main_v70 : Ref sig .tc := ⟨.hbm, 129, rfl⟩
abbrev main_cst_8 : Ref sig .tc := ⟨.hbm, 130, rfl⟩
abbrev main_v71 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_cst_9 : Ref sig .tc := ⟨.hbm, 140, rfl⟩
abbrev main_v80 : Ref sig .tc := ⟨.hbm, 141, rfl⟩
abbrev main_v81 : Ref sig .tc := ⟨.hbm, 142, rfl⟩
abbrev main_v82 : Ref sig .tc := ⟨.hbm, 143, rfl⟩
abbrev main_c : Ref sig .tc := ⟨.hbm, 144, rfl⟩
abbrev main_v83 : Ref sig .tc := ⟨.hbm, 145, rfl⟩
abbrev main_c_10 : Ref sig .tc := ⟨.hbm, 146, rfl⟩
abbrev main_v84 : Ref sig .tc := ⟨.hbm, 147, rfl⟩
abbrev main_c_11 : Ref sig .tc := ⟨.hbm, 148, rfl⟩
abbrev main_c_12 : Ref sig .tc := ⟨.hbm, 149, rfl⟩
abbrev main_v85_0 : Ref sig .tc := ⟨.hbm, 150, rfl⟩
abbrev main_v85_1 : Ref sig .tc := ⟨.hbm, 151, rfl⟩
abbrev main_v85_2 : Ref sig .tc := ⟨.hbm, 152, rfl⟩
abbrev main_v85_3 : Ref sig .tc := ⟨.hbm, 153, rfl⟩
abbrev main_v85_4 : Ref sig .tc := ⟨.hbm, 154, rfl⟩
abbrev main_v85_5 : Ref sig .tc := ⟨.hbm, 155, rfl⟩
abbrev main_while0c_c_25 : Ref sig .tc := ⟨.hbm, 156, rfl⟩
abbrev main_while0c_v95 : Ref sig .tc := ⟨.hbm, 157, rfl⟩
abbrev main_while0b_c_25 : Ref sig .tc := ⟨.hbm, 158, rfl⟩
abbrev main_while0b_v95 : Ref sig .tc := ⟨.hbm, 159, rfl⟩
abbrev main_while0b_c_26 : Ref sig .tc := ⟨.hbm, 160, rfl⟩
abbrev main_while0b_v96 : Ref sig .tc := ⟨.hbm, 161, rfl⟩
abbrev main_while0b_v97 : Ref sig .tc := ⟨.hbm, 162, rfl⟩
abbrev main_while0b_c_27 : Ref sig .tc := ⟨.hbm, 163, rfl⟩
abbrev main_while0b_v98 : Ref sig .tc := ⟨.hbm, 164, rfl⟩
abbrev main_while0b_v99 : Ref sig .tc := ⟨.hbm, 165, rfl⟩
abbrev main_while0b_v100 : Ref sig .tc := ⟨.hbm, 166, rfl⟩
abbrev main_while0b_v101 : Ref sig .tc := ⟨.hbm, 167, rfl⟩
abbrev main_while0b_c_28 : Ref sig .tc := ⟨.hbm, 168, rfl⟩
abbrev main_while0b_v102 : Ref sig .tc := ⟨.hbm, 169, rfl⟩
abbrev main_while0b_v103 : Ref sig .tc := ⟨.hbm, 170, rfl⟩
abbrev main_while0b_c_29 : Ref sig .tc := ⟨.hbm, 171, rfl⟩
abbrev main_while0b_v104 : Ref sig .tc := ⟨.hbm, 172, rfl⟩
abbrev main_while0b_v105 : Ref sig .tc := ⟨.hbm, 173, rfl⟩
abbrev main_while0b_v106 : Ref sig .tc := ⟨.hbm, 174, rfl⟩
abbrev main_while0b_v107 : Ref sig .tc := ⟨.hbm, 175, rfl⟩
abbrev main_while0b_v108 : Ref sig .tc := ⟨.hbm, 176, rfl⟩
abbrev main_while0b_v109 : Ref sig .tc := ⟨.hbm, 177, rfl⟩
abbrev main_while0b_c_30 : Ref sig .tc := ⟨.hbm, 178, rfl⟩
abbrev main_while0b_v110 : Ref sig .tc := ⟨.hbm, 179, rfl⟩
abbrev main_while0b_c_31 : Ref sig .tc := ⟨.hbm, 180, rfl⟩
abbrev main_while0b_v111 : Ref sig .tc := ⟨.hbm, 181, rfl⟩
abbrev main_while0b_v112 : Ref sig .tc := ⟨.hbm, 182, rfl⟩
abbrev main_while0b_v113 : Ref sig .tc := ⟨.hbm, 183, rfl⟩
abbrev main_while0b_v114 : Ref sig .tc := ⟨.hbm, 184, rfl⟩
abbrev main_while0b_v115 : Ref sig .tc := ⟨.hbm, 185, rfl⟩
abbrev main_while0b_v116 : Ref sig .tc := ⟨.hbm, 186, rfl⟩
abbrev main_while0b_c_32 : Ref sig .tc := ⟨.hbm, 187, rfl⟩
abbrev main_while0b_v117 : Ref sig .tc := ⟨.hbm, 188, rfl⟩
abbrev main_while0b_c_33 : Ref sig .tc := ⟨.hbm, 189, rfl⟩
abbrev main_while0b_v118 : Ref sig .tc := ⟨.hbm, 190, rfl⟩
abbrev main_while0b_v119 : Ref sig .tc := ⟨.hbm, 191, rfl⟩
abbrev main_while0b_c_34 : Ref sig .tc := ⟨.hbm, 192, rfl⟩
abbrev main_while0b_c_35 : Ref sig .tc := ⟨.hbm, 193, rfl⟩
abbrev main_while0b_v120 : Ref sig .tc := ⟨.hbm, 194, rfl⟩
abbrev main_while0b_c_36 : Ref sig .tc := ⟨.hbm, 195, rfl⟩
abbrev main_while0b_c_37 : Ref sig .tc := ⟨.hbm, 196, rfl⟩
abbrev main_while0b_v121 : Ref sig .tc := ⟨.hbm, 197, rfl⟩
abbrev main_while0b_c_38 : Ref sig .tc := ⟨.hbm, 198, rfl⟩
abbrev main_while0b_v122 : Ref sig .tc := ⟨.hbm, 199, rfl⟩
abbrev main_while0b_v123 : Ref sig .tc := ⟨.hbm, 200, rfl⟩
abbrev main_while0b_v124 : Ref sig .tc := ⟨.hbm, 201, rfl⟩
abbrev main_while0b_cst_39 : Ref sig .tc := ⟨.hbm, 202, rfl⟩
abbrev main_while0b_v125 : Ref sig .tc := ⟨.hbm, 203, rfl⟩
abbrev main_while0b_v126 : Ref sig .tc := ⟨.hbm, 204, rfl⟩
abbrev main_while0b_v127 : Ref sig .tc := ⟨.hbm, 205, rfl⟩
abbrev main_while0b_v128 : Ref sig .tc := ⟨.hbm, 206, rfl⟩
abbrev main_while0b_c_40 : Ref sig .tc := ⟨.hbm, 207, rfl⟩
abbrev main_while0b_v129 : Ref sig .tc := ⟨.hbm, 208, rfl⟩
abbrev main_cst_13 : Ref sig .tc := ⟨.hbm, 209, rfl⟩
abbrev main_call4_v0 : Ref sig .tc := ⟨.hbm, 210, rfl⟩
abbrev main_call4_v1 : Ref sig .tc := ⟨.hbm, 211, rfl⟩
abbrev main_v86 : Ref sig .tc := ⟨.hbm, 212, rfl⟩
abbrev main_values_14 : Ref sig .tc := ⟨.hbm, 213, rfl⟩
abbrev main_indices_15 : Ref sig .tc := ⟨.hbm, 214, rfl⟩
abbrev main_call5_c : Ref sig .tc := ⟨.hbm, 215, rfl⟩
abbrev main_call5_v0 : Ref sig .tc := ⟨.hbm, 216, rfl⟩
abbrev main_call5_v1 : Ref sig .tc := ⟨.hbm, 217, rfl⟩
abbrev main_call5_c_0 : Ref sig .tc := ⟨.hbm, 218, rfl⟩
abbrev main_call5_v2 : Ref sig .tc := ⟨.hbm, 219, rfl⟩
abbrev main_call5_v3 : Ref sig .tc := ⟨.hbm, 220, rfl⟩
abbrev main_call5_v4 : Ref sig .tc := ⟨.hbm, 221, rfl⟩
abbrev main_call5_v5 : Ref sig .tc := ⟨.hbm, 222, rfl⟩
abbrev main_call5_c_1 : Ref sig .tc := ⟨.hbm, 223, rfl⟩
abbrev main_call5_c_2 : Ref sig .tc := ⟨.hbm, 224, rfl⟩
abbrev main_call5_v6 : Ref sig .tc := ⟨.hbm, 225, rfl⟩
abbrev main_call5_v7 : Ref sig .tc := ⟨.hbm, 226, rfl⟩
abbrev main_call5_v8 : Ref sig .tc := ⟨.hbm, 227, rfl⟩
abbrev main_call5_v9 : Ref sig .tc := ⟨.hbm, 228, rfl⟩
abbrev main_call5_v10 : Ref sig .tc := ⟨.hbm, 229, rfl⟩
abbrev main_call5_v11 : Ref sig .tc := ⟨.hbm, 230, rfl⟩
abbrev main_call5_c_3 : Ref sig .tc := ⟨.hbm, 231, rfl⟩
abbrev main_call5_v12 : Ref sig .tc := ⟨.hbm, 232, rfl⟩
abbrev main_call5_v13 : Ref sig .tc := ⟨.hbm, 233, rfl⟩
abbrev main_call5_v14 : Ref sig .tc := ⟨.hbm, 234, rfl⟩
abbrev main_call5_cst : Ref sig .tc := ⟨.hbm, 235, rfl⟩
abbrev main_call5_v15 : Ref sig .tc := ⟨.hbm, 236, rfl⟩
abbrev main_v87 : Ref sig .tc := ⟨.hbm, 237, rfl⟩
abbrev main_call6_c : Ref sig .tc := ⟨.hbm, 238, rfl⟩
abbrev main_call6_v0 : Ref sig .tc := ⟨.hbm, 239, rfl⟩
abbrev main_call6_v1 : Ref sig .tc := ⟨.hbm, 240, rfl⟩
abbrev main_call6_c_0 : Ref sig .tc := ⟨.hbm, 241, rfl⟩
abbrev main_call6_v2 : Ref sig .tc := ⟨.hbm, 242, rfl⟩
abbrev main_call6_v3 : Ref sig .tc := ⟨.hbm, 243, rfl⟩
abbrev main_call6_v4 : Ref sig .tc := ⟨.hbm, 244, rfl⟩
abbrev main_call6_v5 : Ref sig .tc := ⟨.hbm, 245, rfl⟩
abbrev main_call6_c_1 : Ref sig .tc := ⟨.hbm, 246, rfl⟩
abbrev main_call6_c_2 : Ref sig .tc := ⟨.hbm, 247, rfl⟩
abbrev main_call6_v6 : Ref sig .tc := ⟨.hbm, 248, rfl⟩
abbrev main_call6_v7 : Ref sig .tc := ⟨.hbm, 249, rfl⟩
abbrev main_call6_v8 : Ref sig .tc := ⟨.hbm, 250, rfl⟩
abbrev main_call6_v9 : Ref sig .tc := ⟨.hbm, 251, rfl⟩
abbrev main_call6_v10 : Ref sig .tc := ⟨.hbm, 252, rfl⟩
abbrev main_call6_v11 : Ref sig .tc := ⟨.hbm, 253, rfl⟩
abbrev main_call6_c_3 : Ref sig .tc := ⟨.hbm, 254, rfl⟩
abbrev main_call6_v12 : Ref sig .tc := ⟨.hbm, 255, rfl⟩
abbrev main_call6_v13 : Ref sig .tc := ⟨.hbm, 256, rfl⟩
abbrev main_call6_c_4 : Ref sig .tc := ⟨.hbm, 257, rfl⟩
abbrev main_call6_v14 : Ref sig .tc := ⟨.hbm, 258, rfl⟩
abbrev main_v88 : Ref sig .tc := ⟨.hbm, 259, rfl⟩
abbrev main_cst_16 : Ref sig .tc := ⟨.hbm, 260, rfl⟩
abbrev main_v89 : Ref sig .tc := ⟨.hbm, 261, rfl⟩
abbrev main_v90 : Ref sig .tc := ⟨.hbm, 262, rfl⟩
abbrev main_cst_17 : Ref sig .tc := ⟨.hbm, 263, rfl⟩
abbrev main_call7_v0 : Ref sig .tc := ⟨.hbm, 264, rfl⟩
abbrev main_call7_v1 : Ref sig .tc := ⟨.hbm, 265, rfl⟩
abbrev main_v91 : Ref sig .tc := ⟨.hbm, 266, rfl⟩
abbrev main_v92 : Ref sig .tc := ⟨.hbm, 267, rfl⟩
abbrev main_cst_18 : Ref sig .tc := ⟨.hbm, 268, rfl⟩
abbrev main_call8_v0 : Ref sig .tc := ⟨.hbm, 269, rfl⟩
abbrev main_call8_v1 : Ref sig .tc := ⟨.hbm, 270, rfl⟩
abbrev main_call8_v2 : Ref sig .tc := ⟨.hbm, 271, rfl⟩
abbrev main_v93 : Ref sig .tc := ⟨.hbm, 272, rfl⟩
abbrev main_c_19 : Ref sig .tc := ⟨.hbm, 273, rfl⟩
abbrev main_call9_v0 : Ref sig .tc := ⟨.hbm, 274, rfl⟩
abbrev main_call9_v1 : Ref sig .tc := ⟨.hbm, 275, rfl⟩
abbrev main_v94 : Ref sig .tc := ⟨.hbm, 276, rfl⟩

abbrev nD : Nat := 1
abbrev τ : Topo := Topo.v7x

variable {F : FTy → Type} [FloatOps F]

abbrev main_while0_count : Scf.Loop 32 := ⟨0#32, 1000#32, 1#32⟩
-- ==== Proof.Chunk.lean ====
module

public import proofs.«01_k».proof.Proof.Gen.KernelIdeal.Skeleton
public import Idealize.ShloMosaic.Lib.Pipeline.Value
public import Idealize.ShloMosaic.Lib.Pointwise
public import Idealize.ShloMosaic.PureOps.Ideal

@[expose] public section

set_option maxRecDepth 16384

noncomputable section

open Idealize.ShloMosaic Idealize.ShloMosaic.TcCoe Idealize.SL.Sem

namespace Cert.KernelIdeal.Value

open Cert.KernelIdeal Cert.KernelIdeal.Gen

/-- A truth value as the number the kernel stores for it. -/
def b01 (b : Bool) : EReal := if b then 1 else 0

theorem b01_true : b01 true = 1 := rfl
theorem b01_false : b01 false = 0 := rfl

/-- The word of a truth value, widened to 32 bits and converted, is `b01`. -/
theorem sitofp_b01 (b : Bool) :
    (FloatOps.sitofp (F := Ideal) .f32 (BitVec.setWidth 32 (BitVec.ofBool b)) : EReal) = b01 b := by
  cases b <;> show ((BitVec.toInt _ : ℝ) : EReal) = _ <;> simp [b01]

/-- The overlap of two boxes divided by their union, the union kept off zero. -/
def iouOf (cx1 cy1 cx2 cy2 ca x1 y1 x2 y2 a : EReal) : EReal :=
  Ideal.div (max (min cx2 x2 - max cx1 x1) 0 * max (min cy2 y2 - max cy1 y1) 0)
    (max (ca + a - max (min cx2 x2 - max cx1 x1) 0 * max (min cy2 y2 - max cy1 y1) 0) (Ideal.ofBits .f32 0x3089705F#32))

/-- Whether the overlap passes the threshold. -/
def over (v : EReal) : Bool := decide (Ideal.ofBits .f32 0x3F000000#32 < v)

/-- The eight rows of the adjacency that one chunk of the building loop stores. -/
def chunkT (r0 r1 r2 r3 r4 : Vec Ideal S1x1024 .f32) (q0 q1 q2 q3 q4 : Vec Ideal S8x1 .f32) : FVec Ideal S8x1024 .f32 :=
  k0_pay11 (k0_pay5 r4) (k0_pay7 q4) (k0_pay8 r1 q1) (k0_pay9 r3 q3) (k0_pay10 r0 r2 q0 q2)

theorem chunkT_at (r0 r1 r2 r3 r4 : Vec Ideal S1x1024 .f32) (q0 q1 q2 q3 q4 : Vec Ideal S8x1 .f32) (i : Fin 8) (j : Fin 1024) :
    chunkT r0 r1 r2 r3 r4 q0 q1 q2 q3 q4 (ix2 i j)
      = b01 (over (iouOf (q0 (ix2 i 0)) (q1 (ix2 i 0)) (q2 (ix2 i 0)) (q3 (ix2 i 0)) (q4 (ix2 i 0))
          (r0 (ix2 0 j)) (r1 (ix2 0 j)) (r2 (ix2 0 j)) (r3 (ix2 0 j)) (r4 (ix2 0 j)))) := by
  pointwise [chunkT, k0_pay11, k0_pay5, k0_pay7, k0_pay8, k0_pay9, k0_pay10, k0_pay1, k0_pay2, k0_pay3, k0_pay4]
  exact sitofp_b01 _

/-- The adjacency that the kernel builds in its scratch from its two inputs, at a row and a column. -/
def adjG (x0 : Vec Ideal S8x1024 .f32) (x1 : Vec Ideal S1024x128 .f32) (i j : Fin 1024) : Bool :=
  over (iouOf (x1 (ix2 i 0)) (x1 (ix2 i 1)) (x1 (ix2 i 2)) (x1 (ix2 i 3)) (x1 (ix2 i 4))
    (x0 (ix2 0 j)) (x0 (ix2 1 j)) (x0 (ix2 2 j)) (x0 (ix2 3 j)) (x0 (ix2 4 j)))

/-- The same as the contents of the scratch. -/
def adjA (x0 : Vec Ideal S8x1024 .f32) (x1 : Vec Ideal S1024x128 .f32) (y : S1024x1024.Idx) : EReal :=
  b01 (adjG x0 x1 (y 0) (y 1))

theorem row_at (x0 : Vec Ideal S8x1024 .f32) (q : Fin 8) (h) (j : Fin 1024) :
    View.ld x0 (Rect.unit ![q.val, 0] S1x1024.size h) (ix2 0 j) = x0 (ix2 q j) := by
  refine congrArg x0 (funext fun a => Fin.ext ?_)
  fin_cases a
  · show q.val + 1 * 0 = q.val; omega
  · show 0 + 1 * j.val = j.val; omega

theorem col_at (x1 : Vec Ideal S1024x128 .f32) (b : ℕ) (hb : b + 8 ≤ 1024) (q : Fin 128) (h) (i : Fin 8) :
    View.ld x1 (Rect.unit ![b, q.val] S8x1.size h) (ix2 i 0) = x1 (ix2 ⟨b + i.val, by omega⟩ q) := by
  refine congrArg x1 (funext fun a => Fin.ext ?_)
  fin_cases a
  · show b + 1 * i.val = b + i.val; omega
  · show q.val + 1 * 0 = q.val; omega

/-- One chunk's payload is a block of the adjacency. -/
theorem chunk_block (x0 : Vec Ideal S8x1024 .f32) (x1 : Vec Ideal S1024x128 .f32) (b : ℕ) (hb : b + 8 ≤ 1024)
    (h : ∀ a, (![b, 0] : Fin 2 → ℕ) a + S8x1024.size a ≤ S1024x1024.size a) (p0 p1 p2 p3 p4 c0 c1 c2 c3 c4)
    (x : (Rect.unit (s := S1024x1024) ![b, 0] S8x1024.size h).shape.Idx) :
    chunkT (View.ld x0 (Rect.unit ![0, 0] S1x1024.size p0)) (View.ld x0 (Rect.unit ![1, 0] S1x1024.size p1))
        (View.ld x0 (Rect.unit ![2, 0] S1x1024.size p2)) (View.ld x0 (Rect.unit ![3, 0] S1x1024.size p3))
        (View.ld x0 (Rect.unit ![4, 0] S1x1024.size p4)) (View.ld x1 (Rect.unit ![b, 0] S8x1.size c0))
        (View.ld x1 (Rect.unit ![b, 1] S8x1.size c1)) (View.ld x1 (Rect.unit ![b, 2] S8x1.size c2))
        (View.ld x1 (Rect.unit ![b, 3] S8x1.size c3)) (View.ld x1 (Rect.unit ![b, 4] S8x1.size c4)) x
      = adjA x0 x1 ((Rect.unit (s := S1024x1024) ![b, 0] S8x1024.size h).emb x) := by
  have e : x = (ix2 (x 0) (x 1) : S8x1024.Idx) := by funext a; fin_cases a <;> rfl
  have e0 : ((Rect.unit (s := S1024x1024) ![b, 0] S8x1024.size h).emb x) 0 = ⟨b + (x 0).val, lt_of_lt_of_le (Nat.add_lt_add_left (show (x 0).val < 8 from (x 0).isLt) b) hb⟩ := by
    apply Fin.ext; show b + 1 * (x 0).val = _; simp
  have e1 : ((Rect.unit (s := S1024x1024) ![b, 0] S8x1024.size h).emb x) 1 = x 1 := by
    apply Fin.ext; show 0 + 1 * (x 1).val = _; omega
  unfold adjA adjG
  rw [e0, e1]
  refine (congrArg (chunkT _ _ _ _ _ _ _ _ _ _) e).trans ((chunkT_at _ _ _ _ _ _ _ _ _ _ (x 0) (x 1)).trans ?_)
  exact congrArg b01 (congrArg over (by
    rw [show View.ld x0 (Rect.unit ![0, 0] S1x1024.size p0) (ix2 0 (x 1)) = _ from row_at x0 0 _ _,
      show View.ld x0 (Rect.unit ![1, 0] S1x1024.size p1) (ix2 0 (x 1)) = _ from row_at x0 1 _ _,
      show View.ld x0 (Rect.unit ![2, 0] S1x1024.size p2) (ix2 0 (x 1)) = _ from row_at x0 2 _ _,
      show View.ld x0 (Rect.unit ![3, 0] S1x1024.size p3) (ix2 0 (x 1)) = _ from row_at x0 3 _ _,
      show View.ld x0 (Rect.unit ![4, 0] S1x1024.size p4) (ix2 0 (x 1)) = _ from row_at x0 4 _ _,
      show View.ld x1 (Rect.unit ![b, 0] S8x1.size c0) (ix2 (x 0) 0) = _ from col_at x1 b hb 0 _ _,
      show View.ld x1 (Rect.unit ![b, 1] S8x1.size c1) (ix2 (x 0) 0) = _ from col_at x1 b hb 1 _ _,
      show View.ld x1 (Rect.unit ![b, 2] S8x1.size c2) (ix2 (x 0) 0) = _ from col_at x1 b hb 2 _ _,
      show View.ld x1 (Rect.unit ![b, 3] S8x1.size c3) (ix2 (x 0) 0) = _ from col_at x1 b hb 3 _ _,
      show View.ld x1 (Rect.unit ![b, 4] S8x1.size c4) (ix2 (x 0) 0) = _ from col_at x1 b hb 4 _ _]
    rfl))

end Cert.KernelIdeal.Value

end
-- ==== Proof.Greedy.lean ====
module

public import Mathlib.Data.Bool.Basic
public import Mathlib.Tactic.Common

@[expose] public section

namespace Cert.Greedy

/-- Greedy suppression over truth values, after `k` candidates in rank order: which candidates are kept, and
    which are suppressed. A candidate is kept when it is valid and nothing kept before it suppresses it. -/
def nms (valid : ℕ → Bool) (adj : ℕ → ℕ → Bool) : ℕ → (ℕ → Bool) × (ℕ → Bool)
  | 0 => (fun _ => false, fun _ => false)
  | k + 1 =>
    let s := nms valid adj k
    let ok := valid k && !s.2 k
    (fun j => if j = k then ok else s.1 j, fun j => s.2 j || (adj k j && ok))

/-- Candidates below `n` do not depend on the candidates from `n` on. -/
theorem nms_congr (n : ℕ) (v v' : ℕ → Bool) (a a' : ℕ → ℕ → Bool) (hv : ∀ j < n, v j = v' j)
    (ha : ∀ i < n, ∀ j < n, a i j = a' i j) (k : ℕ) (hk : k ≤ n) :
    ∀ j < n, (nms v a k).1 j = (nms v' a' k).1 j ∧ (nms v a k).2 j = (nms v' a' k).2 j := by
  induction k with
  | zero => intro j _; exact ⟨rfl, rfl⟩
  | succ k ih =>
    intro j hj
    have h := ih (by omega)
    have hkk := h k (by omega)
    have hjj := h j hj
    constructor
    · show (if j = k then _ else _) = (if j = k then _ else _)
      rw [hv k (by omega), hkk.2, hjj.1]
    · show (_ || _) = (_ || _)
      rw [hv k (by omega), hkk.2, hjj.2, ha k (by omega) j hj]

/-- Later candidates leave the earlier ones' verdicts alone. -/
theorem nms_keep_stable (v : ℕ → Bool) (a : ℕ → ℕ → Bool) (n d j : ℕ) (hj : j < n) :
    (nms v a (n + d)).1 j = (nms v a n).1 j := by
  induction d with
  | zero => rfl
  | succ d ih =>
    show (if j = n + d then _ else (nms v a (n + d)).1 j) = _
    rw [if_neg (by omega), ih]

end Cert.Greedy
-- ==== Proof.Trip.lean ====
module

public import proofs.«01_k».proof.Proof.Chunk
public import proofs.«01_k».proof.Proof.Greedy
public import proofs.«01_k».proof.Proof.Gen.KernelIdeal.Loops

@[expose] public section

set_option maxRecDepth 16384

noncomputable section

open Idealize.ShloMosaic Idealize.ShloMosaic.TcCoe Idealize.SL.Sem

namespace Cert.KernelIdeal.Value

open Cert.KernelIdeal Cert.KernelIdeal.Gen

theorem tripR_eq {F : FTy → Type} [FloatOps F] (𝒱 : Variants) (c : Dev nD) (bd : Option 𝒱.V) (arg0 : Memref sig .tc .vmem S8x1024 .f32) (harg0 : arg0.IsWhole)
    (arg1 : Memref sig .tc .vmem S1024x128 .f32) (harg1 : arg1.IsWhole) (arg2 : Memref sig .tc .vmem S1x1024 .f32) (harg2 : arg2.IsWhole)
    (arg3 : Memref sig .tc .vmem S1024x1024 .f32) (harg3 : arg3.IsWhole) (v1 v3 v5 v7 v9 v11 : FVec F S1x1024 .f32)
    (v6362 : BitVec 32) (v6365 v6368 v6371 : FVec F S8x1 .f32) (X : BufTy.Contents (Elt F) arg3.view.ty)
    (k : Fin k0_t1_loop.trips) (acc : FVec F S1x1024 .f32 × FVec F S1x1024 .f32) :
    tripR_k0_t1 𝒱 c bd arg0 harg0 arg1 harg1 arg2 harg2 arg3 harg3 v1 v3 v5 v7 v9 v11 v6362 v6365 v6368 v6371 X k acc
      = (k0_pay504 v11 k acc.1 (View.readAt (Elt F) arg3.view (Rect.unit (s := S1024x1024) (k0_off7 k) S1x1024.size (k0_off7_inb k)).toLoadRect X),
          k0_pay503 v11 k acc.1 acc.2) := by
  unfold tripR_k0_t1 trip_k0_t1
  rfl

theorem trips_eq : k0_t1_loop.trips = 1024 := by decide

theorem iv_val (k : ℕ) : Scf.iv 0#32 1#32 k = BitVec.ofNat 32 k := by
  simp [Scf.iv]

theorem pay501_at (k : Fin k0_t1_loop.trips) (j : Fin 1024) : k0_pay501 k (ix2 0 j) = BitVec.ofBool (decide (j.val = k.val)) := by
  have hk : k.val < 1024 := trips_eq ▸ k.isLt
  pointwise [k0_pay501]
  rw [iv_val]
  show BitVec.ofBool (BitVec.ofNat 32 j.val == BitVec.ofNat 32 k.val) = _
  congr 1
  rw [Bool.eq_iff_iff]
  simp only [beq_iff_eq, decide_eq_true_eq]
  constructor
  · intro h
    have := congrArg BitVec.toNat h
    simp only [BitVec.toNat_ofNat] at this
    omega
  · intro h; rw [h]

/-- Selecting on a truth value's word is an `if`. -/
theorem select_ofBool {α : Type} (b : Bool) (x y : α) : Scalar.select (BitVec.ofBool b) x y = if b then x else y := by
  cases b <;> rfl

theorem sum_pick (v : FVec Ideal S1x1024 .f32) (k : Fin k0_t1_loop.trips) (kk : Fin 1024) (hk : kk.val = k.val) :
    (∑ x : Fin 1, ∑ x : Fin 1024, Scalar.select (k0_pay501 k (ix2 0 x)) (v (ix2 0 x)) (0 : EReal)) = v (ix2 0 kk) := by
  rw [Finset.univ_unique, Finset.sum_singleton]
  rw [Finset.sum_eq_single kk]
  · rw [pay501_at, select_ofBool, hk]; simp
  · intro b _ hb
    rw [pay501_at, select_ofBool, if_neg]
    simp only [decide_eq_true_eq]
    intro h
    exact hb (Fin.ext (h.trans hk.symm))
  · intro h; exact absurd (Finset.mem_univ _) h

/-- A trip's verdict on its candidate: valid, and not yet suppressed. -/
theorem pay502_eq (v sup : FVec Ideal S1x1024 .f32) (k : Fin k0_t1_loop.trips) (kk : Fin 1024) (hk : kk.val = k.val) :
    (k0_pay502 v k sup : EReal) = v (ix2 0 kk) * (1 - sup (ix2 0 kk)) := by
  unfold k0_pay502
  pointwise
  rw [sum_pick v k kk hk, sum_pick sup k kk hk]

theorem b01_and_not (a b : Bool) : b01 a * (1 - b01 b) = b01 (a && !b) := by
  have h : (1 : EReal) - 1 = 0 := by rw [← EReal.coe_one, ← EReal.coe_sub, sub_self, EReal.coe_zero]
  cases a <;> cases b <;> simp [b01, h]

theorem b01_max_mul (s a o : Bool) : max (b01 s) (b01 a * b01 o) = b01 (s || (a && o)) := by
  cases a <;> cases s <;> cases o <;> simp [b01]

/-- A lane of 1024 truth values as the kernel's row of numbers. -/
def lane (f : ℕ → Bool) : FVec Ideal S1x1024 .f32 := fun y => b01 (f (y 1).val)

theorem lane_at (f : ℕ → Bool) (j : Fin 1024) : lane f (ix2 0 j) = b01 (f j.val) := rfl

theorem eq_lane (x : FVec Ideal S1x1024 .f32) (f : ℕ → Bool) (h : ∀ j : Fin 1024, x (ix2 0 j) = b01 (f j.val)) : x = lane f := by
  funext y
  have e : y = (ix2 0 (y 1) : S1x1024.Idx) := by
    funext a; fin_cases a
    · exact Subsingleton.elim (α := Fin 1) _ _
    · rfl
  rw [e]; exact h (y 1)

theorem pay502_lane (v s : ℕ → Bool) (k : Fin k0_t1_loop.trips) :
    (k0_pay502 (lane v) k (lane s) : EReal) = b01 (v k.val && !s k.val) := by
  rw [pay502_eq (lane v) (lane s) k ⟨k.val, trips_eq ▸ k.isLt⟩ rfl, lane_at, lane_at, b01_and_not]

theorem pay503_lane (v s kp : ℕ → Bool) (k : Fin k0_t1_loop.trips) :
    k0_pay503 (lane v) k (lane s) (lane kp) = lane fun j => if j = k.val then v k.val && !s k.val else kp j := by
  refine eq_lane _ _ fun j => ?_
  unfold k0_pay503
  pointwise
  rw [pay501_at, select_ofBool, pay502_lane, lane_at]
  by_cases h : j.val = k.val <;> simp [h]

theorem pay504_lane (v s : ℕ → Bool) (a : ℕ → Bool) (k : Fin k0_t1_loop.trips) :
    k0_pay504 (lane v) k (lane s) (lane a) = lane fun j => s j || (a j && (v k.val && !s k.val)) := by
  refine eq_lane _ _ fun j => ?_
  unfold k0_pay504
  pointwise
  rw [pay502_lane, lane_at, lane_at, b01_max_mul]

end Cert.KernelIdeal.Value

end
-- ==== Proof.Body.lean ====
module

public import proofs.«01_k».proof.Proof.Gen.KernelIdeal.Frame
public import proofs.«01_k».proof.Proof.Trip
public import Idealize.ShloMosaic.Lib.Pipeline.ReadBack
public import Idealize.ShloMosaic.Lib.Pipeline.Value
public import Idealize.ShloMosaic.Lib.Tactic

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

theorem hz : (![0, 0] : Fin 2 → Nat) = fun _ => 0 := funext fun a => by fin_cases a <;> rfl

/-- The adjacency of the two inputs over natural indices. -/
def adjN (x0 : Vec Ideal S8x1024 .f32) (x1 : Vec Ideal S1024x128 .f32) (i j : ℕ) : Bool :=
  if h : i < 1024 ∧ j < 1024 then adjG x0 x1 ⟨i, h.1⟩ ⟨j, h.2⟩ else false

/-- The load of row `k` from a scratch that holds the adjacency. -/
theorem row_lane (x0 : Vec Ideal S8x1024 .f32) (x1 : Vec Ideal S1024x128 .f32) (k : Fin k0_t1_loop.trips)
    (v : View sig .tc .vmem S1024x1024 .f32) (f : v.ty.Contents (Elt Ideal)) (L : List (View.Piece (Elt Ideal) S1024x1024 .f32))
    (hL : View.PiecesOf (adjA x0 x1) L) (hcov : ∀ y : S1024x1024.Idx, ∃ p ∈ L, y ∈ p.1.set) :
    View.readAt (Elt Ideal) v (Rect.unit (s := S1024x1024) (k0_off7 k) S1x1024.size (k0_off7_inb k)).toLoadRect (v.writes (Elt Ideal) f L)
      = lane (adjN x0 x1 k.val) := by
  refine eq_lane _ _ fun j => ?_
  rw [View.readAt_eq_ld, View.read_writes_eq_canon _ _ _ hcov]
  have hk : k.val < 1024 := trips_eq ▸ k.isLt
  refine (View.canon_apply_of_pieces (adjA x0 x1) L hL.mem _ (hcov _)).trans ?_
  unfold adjN
  rw [dif_pos ⟨hk, j.isLt⟩]
  have hoff : k0_off7 k 0 = k.val := by
    show (Scf.iv 0#32 1#32 k.val).toNat = k.val
    rw [iv_val, BitVec.toNat_ofNat]; omega
  refine congrArg b01 (congrArg₂ (adjG x0 x1) (Fin.ext ?_) (Fin.ext ?_))
  · show k0_off7 k 0 + 1 * 0 = k.val; omega
  · show 0 + 1 * j.val = j.val; omega

theorem loop_lane (𝒱 : Variants) (c : Dev nD) (bd : Option 𝒱.V) (arg0 : Memref sig .tc .vmem S8x1024 .f32) (harg0 : arg0.IsWhole)
    (arg1 : Memref sig .tc .vmem S1024x128 .f32) (harg1 : arg1.IsWhole) (arg2 : Memref sig .tc .vmem S1x1024 .f32) (harg2 : arg2.IsWhole)
    (arg3 : Memref sig .tc .vmem S1024x1024 .f32) (harg3 : arg3.IsWhole) (v1 v3 v5 v7 v9 : FVec Ideal S1x1024 .f32) (v : ℕ → Bool)
    (v6362 : BitVec 32) (v6365 v6368 v6371 : FVec Ideal S8x1 .f32)
    (x0 : Vec Ideal S8x1024 .f32) (x1 : Vec Ideal S1024x128 .f32)
    (f : arg3.view.ty.Contents (Elt Ideal)) (L : List (View.Piece (Elt Ideal) S1024x1024 .f32))
    (hL : View.PiecesOf (adjA x0 x1) L) (hcov : ∀ y : S1024x1024.Idx, ∃ p ∈ L, y ∈ p.1.set) (k : ℕ) (hk : k ≤ 1024) :
    st_k0_t1 𝒱 c bd arg0 harg0 arg1 harg1 arg2 harg2 arg3 harg3 v1 v3 v5 v7 v9 (lane v) v6362 v6365 v6368 v6371
        (arg3.view.writes (Elt Ideal) f L) (k0_pay499, k0_pay500) k
      = (lane (Greedy.nms v (adjN x0 x1) k).2, lane (Greedy.nms v (adjN x0 x1) k).1) := by
  induction k with
  | zero =>
    rw [st_k0_t1_zero]
    refine congrArg₂ Prod.mk (eq_lane _ _ fun j => ?_) (eq_lane _ _ fun j => ?_)
    · show k0_pay499 (F := Ideal) (ix2 0 j) = 0
      pointwise [k0_pay499]
    · show k0_pay500 (F := Ideal) (ix2 0 j) = 0
      pointwise [k0_pay500]
  | succ k ih =>
    have hlt : k < k0_t1_loop.trips := by rw [trips_eq]; omega
    rw [show k + 1 = (⟨k, hlt⟩ : Fin k0_t1_loop.trips).val + 1 from rfl, st_k0_t1_succ, tripR_eq,
      show (⟨k, hlt⟩ : Fin k0_t1_loop.trips).val = k from rfl, ih (by omega),
      row_lane x0 x1 ⟨k, hlt⟩ arg3.view f L hL hcov]
    dsimp only
    rw [pay503_lane, pay504_lane]
    rfl

/-- Adding the next chunk in front of chunks that are blocks of the adjacency. -/
theorem pieces_cons (x0 : Vec Ideal S8x1024 .f32) (x1 : Vec Ideal S1024x128 .f32) (arg0 : Memref sig .tc .vmem S8x1024 .f32) (harg0 : arg0.IsWhole)
    (arg1 : Memref sig .tc .vmem S1024x128 .f32) (harg1 : arg1.IsWhole) {b : ℕ} {h : ∀ a, (![b, 0] : Fin 2 → ℕ) a + S8x1024.size a ≤ S1024x1024.size a}
    {w : S8x1024.Idx → EReal} {L : List (View.Piece (Elt Ideal) S1024x1024 .f32)}
    (hb : b + 8 ≤ 1024) {p0 p1 p2 p3 p4 c0 c1 c2 c3 c4}
    (hw : w = chunkT
        (View.readAt (Elt Ideal) arg0.view (Rect.unit (s := S8x1024) ![0, 0] S1x1024.size p0).toLoadRect (harg0.unread x0))
        (View.readAt (Elt Ideal) arg0.view (Rect.unit (s := S8x1024) ![1, 0] S1x1024.size p1).toLoadRect (harg0.unread x0))
        (View.readAt (Elt Ideal) arg0.view (Rect.unit (s := S8x1024) ![2, 0] S1x1024.size p2).toLoadRect (harg0.unread x0))
        (View.readAt (Elt Ideal) arg0.view (Rect.unit (s := S8x1024) ![3, 0] S1x1024.size p3).toLoadRect (harg0.unread x0))
        (View.readAt (Elt Ideal) arg0.view (Rect.unit (s := S8x1024) ![4, 0] S1x1024.size p4).toLoadRect (harg0.unread x0))
        (View.readAt (Elt Ideal) arg1.view (Rect.unit (s := S1024x128) ![b, 0] S8x1.size c0).toLoadRect (harg1.unread x1))
        (View.readAt (Elt Ideal) arg1.view (Rect.unit (s := S1024x128) ![b, 1] S8x1.size c1).toLoadRect (harg1.unread x1))
        (View.readAt (Elt Ideal) arg1.view (Rect.unit (s := S1024x128) ![b, 2] S8x1.size c2).toLoadRect (harg1.unread x1))
        (View.readAt (Elt Ideal) arg1.view (Rect.unit (s := S1024x128) ![b, 3] S8x1.size c3).toLoadRect (harg1.unread x1))
        (View.readAt (Elt Ideal) arg1.view (Rect.unit (s := S1024x128) ![b, 4] S8x1.size c4).toLoadRect (harg1.unread x1)))
    (hL : View.PiecesOf (adjA x0 x1) L) :
    View.PiecesOf (adjA x0 x1) (⟨Rect.unit (s := S1024x1024) ![b, 0] S8x1024.size h, w⟩ :: L) := by
  refine ⟨fun x => ?_, hL⟩
  show w x = _
  rw [hw]
  simp only [View.readAt_eq_ld, harg0.read_unread, harg1.read_unread]
  exact chunk_block x0 x1 b hb h p0 p1 p2 p3 p4 c0 c1 c2 c3 c4 x

set_option maxHeartbeats 4000000 in
/-- What the body leaves in its output: the greedy verdicts, given valid flags that are truth values. -/
theorem out_A (c : Dev nD) (arg0 : Memref sig .tc .vmem S8x1024 .f32) (harg0 : arg0.IsWhole) (arg1 : Memref sig .tc .vmem S1024x128 .f32) (harg1 : arg1.IsWhole) (arg2 : Memref sig .tc .vmem S1x1024 .f32) (harg2 : arg2.IsWhole) (arg3 : Memref sig .tc .vmem S1024x1024 .f32) (harg3 : arg3.IsWhole)
    (x0 : Vec Ideal S8x1024 .f32) (x1 : Vec Ideal S1024x128 .f32) (v : ℕ → Bool)
    (hv : ∀ j : Fin 1024, x0 (ix2 5 j) = b01 (v j.val)) :
    out0_A_2 c arg0 harg0 arg1 harg1 arg2 harg2 arg3 harg3 x0 x1 = lane (Greedy.nms v (adjN x0 x1) 1024).1 := by
  have hvl : ∀ h, k0_pay6 (View.readAt (Elt Ideal) arg0.view (Rect.unit (s := S8x1024) ![5, 0] S1x1024.size h).toLoadRect (harg0.unread x0)) = lane v := by
    intro h
    refine eq_lane _ _ fun j => ?_
    rw [View.readAt_eq_ld, harg0.read_unread]
    unfold k0_pay6
    pointwise
    exact hv j
  unfold out0_A_2
  rw [View.read_writes_eq_canon _ _ _ (cover0_A_2 c arg0 harg0 arg1 harg1 arg2 harg2 arg3 harg3 x0 x1)]
  unfold kernelRun0_A
  dsimp only
  rw [View.canon_unit_zero hz]
  unfold kernelRun0_A.sl.r_371
  dsimp only
  sl_unfold_words
  rw [hvl]
  rw [show Scf.trips (0#32) (Scalar.addi 0#32 1024#32) 1#32 = 1024 from rfl]
  refine congrArg Prod.snd (loop_lane _ c _ arg0 harg0 arg1 harg1 arg2 harg2 arg3 harg3 _ _ _ _ _ v _ _ _ _ x0 x1 _ _ ?_ ?_ 1024 (Nat.le_refl _))
  · iterate 128 refine pieces_cons x0 x1 arg0 harg0 arg1 harg1 (by decide) rfl ?_
    exact trivial
  · exact View.cover_of_tiledL _ S8x1024.size (by sl_kernel_rfl)

end Cert.KernelIdeal.Value

end
-- ==== Proof.Out.lean ====
module

public import proofs.«01_k».proof.Proof.Body

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

variable (m : (ℓ : Loc nD τ sig) → Buf (Elt Ideal) ℓ)

/-- The kernel's first input as the launch finds it: a row per quantity, a column per candidate. -/
abbrev rows (c : Dev nD) : Vec Ideal S8x1024 .f32 := V m c main_v63

/-- The kernel's second input as the launch finds it: a row per candidate, a column per quantity. -/
abbrev cols (c : Dev nD) : Vec Ideal S1024x128 .f32 := V m c main_v75

theorem hz0 : (fun a => win0_0.index t0_0 a * main_v63.ty.shape.size a) = fun _ => 0 := funext fun a => by fin_cases a <;> decide
theorem hz1 : (fun a => win0_1.index t0_0 a * main_v75.ty.shape.size a) = fun _ => 0 := funext fun a => by fin_cases a <;> decide
theorem hz2 : (fun a => win0_2.index t0_0 a * main_v76.ty.shape.size a) = fun _ => 0 := funext fun a => by fin_cases a <;> decide

theorem iblk_rows (c : Dev nD) : iblk m c 0 t0_0 = rows m c :=
  Memref.read_access_unit_zero (Elt Ideal) main_v63 hz0 (fun a => by rw [congrFun hz0 a]; simp) (rows m c)

theorem iblk_cols (c : Dev nD) : iblk m c 1 t0_0 = cols m c :=
  Memref.read_access_unit_zero (Elt Ideal) main_v75 hz1 (fun a => by rw [congrFun hz1 a]; simp) (cols m c)

/-- The greedy verdicts from the two inputs and the valid flags. -/
abbrev verdict (v : ℕ → Bool) (c : Dev nD) : Buf (Elt Ideal) ((c : Thread nD τ).loc main_v76) :=
  lane (Greedy.nms v (adjN (rows m c) (cols m c)) 1024).1

theorem flushed_eq (v : ℕ → Bool) (c : Dev nD) (hv : ∀ j : Fin 1024, rows m c (ix2 5 j) = b01 (v j.val)) (t : Fin cfg0.N) :
    (dats m 0 c).flushed 2 t = ((cfg0.win 2).blk t).view.read (Elt Ideal) (verdict m v c) := by
  obtain rfl : t = t0_0 := fin_N0 t
  show (cfg0.win 2).cut (grid0.coords t0_0) ((dats m 0 c).after 2 t0_0) = _
  rw [after0_2]
  unfold outsAt0
  rw [iblk_rows, iblk_cols, out_A _ _ _ _ _ _ _ _ _ (rows m c) (cols m c) v hv]
  exact (Memref.read_access_unit_zero (Elt Ideal) main_v76 hz2 (fun a => by rw [congrFun hz2 a]; simp) (verdict m v c)).symm

/-- The kernel's result array ends holding the greedy verdicts. -/
theorem final_o (v : ℕ → Bool) (c : Dev nD) (hv : ∀ j : Fin 1024, rows m c (ix2 5 j) = b01 (v j.val)) :
    (dats m 0 c).arrAt 2 cfg0.N = verdict m v c :=
  (dats m 0 c).arrAt_eq_of_cover 2 (verdict m v c) (fun t _ => flushed_eq m v c hv t) fun i =>
    ⟨t0_0, flush0_2 t0_0, by
      show i ∈ ((View.whole main_v76).slice (win0_2.rect t0_0)).set
      rw [View.set_slice_whole, Rect.mem_set_unit]
      intro a
      have h0 : (i 0 : Nat) < 1 := (i 0).isLt
      have h1 : (i 1 : Nat) < 1024 := (i 1).isLt
      match a with
      | ⟨0, _⟩ => show win0_2.index t0_0 0 * win0_2.size 0 ≤ (i 0 : Nat) ∧ (i 0 : Nat) < win0_2.index t0_0 0 * win0_2.size 0 + win0_2.xsize (grid0.coords t0_0) 0
                  rw [show win0_2.index t0_0 0 * win0_2.size 0 = 0 from by decide +kernel, show win0_2.xsize (grid0.coords t0_0) 0 = 1 from by decide +kernel]; omega
      | ⟨1, _⟩ => show win0_2.index t0_0 1 * win0_2.size 1 ≤ (i 1 : Nat) ∧ (i 1 : Nat) < win0_2.index t0_0 1 * win0_2.size 1 + win0_2.xsize (grid0.coords t0_0) 1
                  rw [show win0_2.index t0_0 1 * win0_2.size 1 = 0 from by decide +kernel, show win0_2.xsize (grid0.coords t0_0) 1 = 1024 from by decide +kernel]; omega⟩

end Cert.KernelIdeal.Value

end
-- ==== Proof.Mid.lean ====
module

public import proofs.«01_k».proof.Proof.Chunk
public import proofs.«01_k».proof.Proof.Gen.KernelIdeal.Launch
public import Idealize.ShloMosaic.Lib.StableHlo.ReadAt
public import Idealize.ShloMosaic.Lib.StableHlo.RunLoop

@[expose] public section

set_option maxRecDepth 16384

noncomputable section

open Idealize.ShloMosaic Idealize.ShloMosaic.TcCoe Idealize.SL.Sem
open Idealize.ShloMosaic.StableHlo

namespace Cert.KernelIdeal.Value

open Cert.KernelIdeal Cert.KernelIdeal.Gen

/-- A buffer's contents after the pads and the concatenations that lay out the kernel's two inputs. -/
abbrev mid (U : Valuation τ sig (Elt Ideal)) : Valuation τ sig (Elt Ideal) :=
  afterL [hostOps0_6, hostOps0_7, hostOps0_8, hostOps0_9, hostOps0_10, hostOps0_11, hostOps0_12, hostOps0_13, hostOps0_14, hostOps0_15,
    hostOps0_16, hostOps0_17, hostOps0_18, hostOps0_19, hostOps0_20, hostOps0_21, hostOps0_22, hostOps0_23, hostOps0_24, hostOps0_25,
    hostOps0_26, hostOps0_27, hostOps0_28] U

variable (U : Valuation τ sig (Elt Ideal))

/-- The kernel's rows of corners and areas, at a candidate below a thousand. -/
theorem mid_rows (j : ℕ) (hj : j < 1000) :
    (mid U (Proc.devRef .tc main_v63) : Vec Ideal S8x1024 .f32) (ix2 0 ⟨j, by omega⟩) = U (Proc.devRef .tc main_v34) (ix1 ⟨j, hj⟩)
    ∧ (mid U (Proc.devRef .tc main_v63) : Vec Ideal S8x1024 .f32) (ix2 1 ⟨j, by omega⟩) = U (Proc.devRef .tc main_v37) (ix1 ⟨j, hj⟩)
    ∧ (mid U (Proc.devRef .tc main_v63) : Vec Ideal S8x1024 .f32) (ix2 2 ⟨j, by omega⟩) = U (Proc.devRef .tc main_v40) (ix1 ⟨j, hj⟩)
    ∧ (mid U (Proc.devRef .tc main_v63) : Vec Ideal S8x1024 .f32) (ix2 3 ⟨j, by omega⟩) = U (Proc.devRef .tc main_v43) (ix1 ⟨j, hj⟩)
    ∧ (mid U (Proc.devRef .tc main_v63) : Vec Ideal S8x1024 .f32) (ix2 4 ⟨j, by omega⟩) = U (Proc.devRef .tc main_v46) (ix1 ⟨j, hj⟩) := by
  simp only [mid, afterL_cons, afterL_nil]
  refine ⟨?_, ?_, ?_, ?_, ?_⟩ <;> (after_reads_at; after_reads_at; exact dif_pos hj)

/-- The kernel's columns of corners and areas, at a candidate below a thousand. -/
theorem mid_cols (i : ℕ) (hi : i < 1000) :
    (mid U (Proc.devRef .tc main_v75) : Vec Ideal S1024x128 .f32) (ix2 ⟨i, by omega⟩ 0) = U (Proc.devRef .tc main_v34) (ix1 ⟨i, hi⟩)
    ∧ (mid U (Proc.devRef .tc main_v75) : Vec Ideal S1024x128 .f32) (ix2 ⟨i, by omega⟩ 1) = U (Proc.devRef .tc main_v37) (ix1 ⟨i, hi⟩)
    ∧ (mid U (Proc.devRef .tc main_v75) : Vec Ideal S1024x128 .f32) (ix2 ⟨i, by omega⟩ 2) = U (Proc.devRef .tc main_v40) (ix1 ⟨i, hi⟩)
    ∧ (mid U (Proc.devRef .tc main_v75) : Vec Ideal S1024x128 .f32) (ix2 ⟨i, by omega⟩ 3) = U (Proc.devRef .tc main_v43) (ix1 ⟨i, hi⟩)
    ∧ (mid U (Proc.devRef .tc main_v75) : Vec Ideal S1024x128 .f32) (ix2 ⟨i, by omega⟩ 4) = U (Proc.devRef .tc main_v46) (ix1 ⟨i, hi⟩) := by
  simp only [mid, afterL_cons, afterL_nil]
  refine ⟨?_, ?_, ?_, ?_, ?_⟩ <;> (after_reads_at; after_reads_at; exact (dif_pos (by omega)).trans (dif_pos hi))

/-- The kernel's row of valid flags: one where the candidate is valid, zero elsewhere and past the thousandth. -/
theorem mid_row5 (v : ℕ → Bool) (hv : ∀ j : Fin 1000, U (Proc.devRef .tc main_v6) (ix1 j) = BitVec.ofBool (v j.val)) (hz : ∀ j, 1000 ≤ j → v j = false)
    (j : Fin 1024) : (mid U (Proc.devRef .tc main_v63) : Vec Ideal S8x1024 .f32) (ix2 5 j) = b01 (v j.val) := by
  simp only [mid, afterL_cons, afterL_nil]
  after_reads_at
  after_reads_at
  split
  · rename_i h
    rw [hv ⟨j.val, h⟩]
    show ((BitVec.toNat (BitVec.ofBool (v j.val)) : ℝ) : EReal) = _
    cases v j.val
    · show (((0 : ℕ) : ℝ) : EReal) = _
      rw [b01_false, Nat.cast_zero, EReal.coe_zero]
    · show (((1 : ℕ) : ℝ) : EReal) = _
      rw [b01_true, Nat.cast_one, EReal.coe_one]
  · rw [hz j.val (by omega), b01_false]
    show (((0 : ℤ) : ℝ) : EReal) = _
    rw [Int.cast_zero, EReal.coe_zero]

end Cert.KernelIdeal.Value
-- ==== Proof.Prefix.lean ====
module

public import proofs.«01_k».proof.Proof.Gen.KernelIdeal.Launch
public import proofs.«01_k».proof.Proof.Gen.ReferenceIdeal.Run
public import Idealize.ShloMosaic.Lib.StableHlo.RunRead
public import Idealize.ShloMosaic.Lib.Pointwise

@[expose] public section

set_option maxRecDepth 16384

noncomputable section

open Idealize.ShloMosaic Idealize.ShloMosaic.TcCoe Idealize.SL.Sem
open Idealize.ShloMosaic.StableHlo

/-! The host lines that both programs share, read from equal contents: the same operations on the same values. -/

namespace Cert.Common

/-- Contents of every buffer of the kernel's program. -/
abbrev KV := Valuation Cert.KernelIdeal.τ Cert.KernelIdeal.sig (Elt Ideal)
/-- Contents of every buffer of the reference program. -/
abbrev RV := Valuation Cert.ReferenceIdeal.τ Cert.ReferenceIdeal.sig (Elt Ideal)

variable (U : KV) (W : RV)

/-- The kernel's first three stretches: mask the scores and take the thousand best. -/
abbrev kTop : KV := after Cert.KernelIdeal.Gen.hostOps0_2 (after Cert.KernelIdeal.Gen.hostOps0_1 (after Cert.KernelIdeal.Gen.hostOps0 U))
/-- The reference's first three stretches. -/
abbrev rTop : RV := after Cert.ReferenceIdeal.Gen.hostOps0_2 (after Cert.ReferenceIdeal.Gen.hostOps0_1 (after Cert.ReferenceIdeal.Gen.hostOps0 W))

/-- Equal scores give the same thousand best values. -/
theorem values_eq (h : U (Proc.devRef .tc Cert.KernelIdeal.main_arg1) = W (Proc.devRef .tc Cert.ReferenceIdeal.main_arg1)) :
    kTop U (Proc.devRef .tc Cert.KernelIdeal.main_values) = rTop W (Proc.devRef .tc Cert.ReferenceIdeal.main_values) := by
  after_reads_simp
  rw [h]

/-- Equal scores give the same thousand best places. -/
theorem indices_eq (h : U (Proc.devRef .tc Cert.KernelIdeal.main_arg1) = W (Proc.devRef .tc Cert.ReferenceIdeal.main_arg1)) :
    kTop U (Proc.devRef .tc Cert.KernelIdeal.main_indices) = rTop W (Proc.devRef .tc Cert.ReferenceIdeal.main_indices) := by
  after_reads_simp
  rw [h]

/-- Equal boxes and places give the same boxes taken. -/
theorem boxes_eq (h0 : U (Proc.devRef .tc Cert.KernelIdeal.main_arg0) = W (Proc.devRef .tc Cert.ReferenceIdeal.main_arg0))
    (hi : U (Proc.devRef .tc Cert.KernelIdeal.main_indices) = W (Proc.devRef .tc Cert.ReferenceIdeal.main_indices)) :
    after Cert.KernelIdeal.Gen.hostOps0_3 U (Proc.devRef .tc Cert.KernelIdeal.main_v3)
      = after Cert.ReferenceIdeal.Gen.hostOps0_3 W (Proc.devRef .tc Cert.ReferenceIdeal.main_v3) := by
  after_reads_simp
  rw [h0, hi]
  rfl

/-- Equal labels and places give the same labels taken. -/
theorem labels_eq (h2 : U (Proc.devRef .tc Cert.KernelIdeal.main_arg2) = W (Proc.devRef .tc Cert.ReferenceIdeal.main_arg2))
    (hi : U (Proc.devRef .tc Cert.KernelIdeal.main_indices) = W (Proc.devRef .tc Cert.ReferenceIdeal.main_indices)) :
    after Cert.KernelIdeal.Gen.hostOps0_4 U (Proc.devRef .tc Cert.KernelIdeal.main_v4)
      = after Cert.ReferenceIdeal.Gen.hostOps0_4 W (Proc.devRef .tc Cert.ReferenceIdeal.main_v4) := by
  after_reads_simp
  rw [h2, hi]
  rfl

/-- Equal values give the same valid flags. -/
theorem valid_eq (hv : U (Proc.devRef .tc Cert.KernelIdeal.main_values) = W (Proc.devRef .tc Cert.ReferenceIdeal.main_values)) :
    after Cert.KernelIdeal.Gen.hostOps0_5 U (Proc.devRef .tc Cert.KernelIdeal.main_v6)
      = after Cert.ReferenceIdeal.Gen.hostOps0_5 W (Proc.devRef .tc Cert.ReferenceIdeal.main_v6) := by
  after_reads_simp
  rw [hv]

set_option maxHeartbeats 4000000 in
/-- Equal boxes and labels give equal corners and areas. -/
theorem corners_eq (hb : U (Proc.devRef .tc Cert.KernelIdeal.main_v3) = W (Proc.devRef .tc Cert.ReferenceIdeal.main_v3))
    (hl : U (Proc.devRef .tc Cert.KernelIdeal.main_v4) = W (Proc.devRef .tc Cert.ReferenceIdeal.main_v4)) :
    after Cert.KernelIdeal.Gen.hostOps0_5 U (Proc.devRef .tc Cert.KernelIdeal.main_v34)
      = after Cert.ReferenceIdeal.Gen.hostOps0_5 W (Proc.devRef .tc Cert.ReferenceIdeal.main_v34)
    ∧ after Cert.KernelIdeal.Gen.hostOps0_5 U (Proc.devRef .tc Cert.KernelIdeal.main_v37)
      = after Cert.ReferenceIdeal.Gen.hostOps0_5 W (Proc.devRef .tc Cert.ReferenceIdeal.main_v37)
    ∧ after Cert.KernelIdeal.Gen.hostOps0_5 U (Proc.devRef .tc Cert.KernelIdeal.main_v40)
      = after Cert.ReferenceIdeal.Gen.hostOps0_5 W (Proc.devRef .tc Cert.ReferenceIdeal.main_v40)
    ∧ after Cert.KernelIdeal.Gen.hostOps0_5 U (Proc.devRef .tc Cert.KernelIdeal.main_v43)
      = after Cert.ReferenceIdeal.Gen.hostOps0_5 W (Proc.devRef .tc Cert.ReferenceIdeal.main_v43)
    ∧ after Cert.KernelIdeal.Gen.hostOps0_5 U (Proc.devRef .tc Cert.KernelIdeal.main_v46)
      = after Cert.ReferenceIdeal.Gen.hostOps0_5 W (Proc.devRef .tc Cert.ReferenceIdeal.main_v46) := by
  refine ⟨?_, ?_, ?_, ?_, ?_⟩ <;> (after_reads_simp; rw [hb, hl]; rfl)

end Cert.Common
-- ==== Proof.Suffix.lean ====
module

public import proofs.«01_k».proof.Proof.Gen.KernelIdeal.Launch
public import proofs.«01_k».proof.Proof.Gen.ReferenceIdeal.Run
public import Idealize.ShloMosaic.Lib.StableHlo.RunRead
public import Idealize.ShloMosaic.Lib.Pointwise
public import proofs.«01_k».proof.Proof.Prefix

@[expose] public section

set_option maxRecDepth 16384

noncomputable section

open Idealize.ShloMosaic Idealize.ShloMosaic.TcCoe Idealize.SL.Sem
open Idealize.ShloMosaic.StableHlo

/-! The host lines after the suppression, which both programs share, read from equal contents. -/

namespace Cert.Common

variable (U : KV) (W : RV)

/-- The kernel's program from the kept flags to the three hundred best. -/
abbrev kBest : KV := after Cert.KernelIdeal.Gen.hostOps1_2 (after Cert.KernelIdeal.Gen.hostOps1_1 U)
/-- The reference's lines from the kept flags to the three hundred best. -/
abbrev rBest : RV := after Cert.ReferenceIdeal.Gen.hostOps0_8 (after Cert.ReferenceIdeal.Gen.hostOps0_7 (after Cert.ReferenceIdeal.Gen.hostOps0_6 W))

/-- The kernel's program from the boxes and labels taken to its results. -/
abbrev kEnd : KV := after Cert.KernelIdeal.Gen.hostOps1_10 (after Cert.KernelIdeal.Gen.hostOps1_9 (after Cert.KernelIdeal.Gen.hostOps1_8 (after Cert.KernelIdeal.Gen.hostOps1_7
  (after Cert.KernelIdeal.Gen.hostOps1_6 (after Cert.KernelIdeal.Gen.hostOps1_5 U)))))
/-- The reference's lines from the boxes and labels taken to its results. -/
abbrev rEnd : RV := after Cert.ReferenceIdeal.Gen.hostOps0_16 (after Cert.ReferenceIdeal.Gen.hostOps0_15 (after Cert.ReferenceIdeal.Gen.hostOps0_14 (after Cert.ReferenceIdeal.Gen.hostOps0_13
  (after Cert.ReferenceIdeal.Gen.hostOps0_12 (after Cert.ReferenceIdeal.Gen.hostOps0_11 W)))))

/-- Equal kept flags and values give the same three hundred best values and places. -/
theorem best_eq (hc : U (Proc.devRef .tc Cert.KernelIdeal.main_cst_20) = constant (F := Ideal) Cert.KernelIdeal.S_ .f32 0xD01502F9#32)
    (hk : U (Proc.devRef .tc Cert.KernelIdeal.main_v80) = W (Proc.devRef .tc Cert.ReferenceIdeal.main_v85_4)) (hv : U (Proc.devRef .tc Cert.KernelIdeal.main_values) = W (Proc.devRef .tc Cert.ReferenceIdeal.main_values)) :
    kBest U (Proc.devRef .tc Cert.KernelIdeal.main_values_21) = rBest W (Proc.devRef .tc Cert.ReferenceIdeal.main_values_14)
    ∧ kBest U (Proc.devRef .tc Cert.KernelIdeal.main_indices_22) = rBest W (Proc.devRef .tc Cert.ReferenceIdeal.main_indices_15) := by
  refine ⟨?_, ?_⟩ <;> (after_reads_simp; rw [hc, hk, hv])

/-- Equal boxes and places give the same boxes taken. -/
theorem best_boxes_eq (hb : U (Proc.devRef .tc Cert.KernelIdeal.main_v3) = W (Proc.devRef .tc Cert.ReferenceIdeal.main_v3)) (hi : U (Proc.devRef .tc Cert.KernelIdeal.main_indices_22) = W (Proc.devRef .tc Cert.ReferenceIdeal.main_indices_15)) :
    after Cert.KernelIdeal.Gen.hostOps1_3 U (Proc.devRef .tc Cert.KernelIdeal.main_v82) = after Cert.ReferenceIdeal.Gen.hostOps0_9 W (Proc.devRef .tc Cert.ReferenceIdeal.main_v87) := by
  after_reads_simp
  rw [hb, hi]
  rfl

/-- Equal labels and places give the same labels taken. -/
theorem best_labels_eq (hb : U (Proc.devRef .tc Cert.KernelIdeal.main_v4) = W (Proc.devRef .tc Cert.ReferenceIdeal.main_v4)) (hi : U (Proc.devRef .tc Cert.KernelIdeal.main_indices_22) = W (Proc.devRef .tc Cert.ReferenceIdeal.main_indices_15)) :
    after Cert.KernelIdeal.Gen.hostOps1_4 U (Proc.devRef .tc Cert.KernelIdeal.main_v83) = after Cert.ReferenceIdeal.Gen.hostOps0_10 W (Proc.devRef .tc Cert.ReferenceIdeal.main_v88) := by
  after_reads_simp
  rw [hb, hi]
  rfl

/-- Equal best values give the same scores. -/
theorem end_scores (hv : U (Proc.devRef .tc Cert.KernelIdeal.main_values_21) = W (Proc.devRef .tc Cert.ReferenceIdeal.main_values_14)) : kEnd U (Proc.devRef .tc Cert.KernelIdeal.main_v86) = rEnd W (Proc.devRef .tc Cert.ReferenceIdeal.main_v91) := by
  after_reads_simp
  rw [hv]

/-- Equal best values and boxes give the same boxes. -/
theorem end_boxes (hv : U (Proc.devRef .tc Cert.KernelIdeal.main_values_21) = W (Proc.devRef .tc Cert.ReferenceIdeal.main_values_14)) (hb : U (Proc.devRef .tc Cert.KernelIdeal.main_v82) = W (Proc.devRef .tc Cert.ReferenceIdeal.main_v87)) :
    kEnd U (Proc.devRef .tc Cert.KernelIdeal.main_v88) = rEnd W (Proc.devRef .tc Cert.ReferenceIdeal.main_v93) := by
  after_reads_simp
  rw [hv, hb]

/-- Equal best values and labels give the same labels. -/
theorem end_labels (hv : U (Proc.devRef .tc Cert.KernelIdeal.main_values_21) = W (Proc.devRef .tc Cert.ReferenceIdeal.main_values_14)) (hl : U (Proc.devRef .tc Cert.KernelIdeal.main_v83) = W (Proc.devRef .tc Cert.ReferenceIdeal.main_v88)) :
    kEnd U (Proc.devRef .tc Cert.KernelIdeal.main_v89) = rEnd W (Proc.devRef .tc Cert.ReferenceIdeal.main_v94) := by
  after_reads_simp
  rw [hv, hl]

end Cert.Common
-- ==== Proof.Join.lean ====
module

public import proofs.«01_k».proof.Proof.Gen.KernelIdeal.Launch
public import proofs.«01_k».proof.Proof.Gen.ReferenceIdeal.Run
public import Idealize.ShloMosaic.Lib.StableHlo.RunRead
public import Idealize.ShloMosaic.Lib.Pointwise
public import proofs.«01_k».proof.Proof.Suffix

@[expose] public section

set_option maxRecDepth 16384

noncomputable section

open Idealize.ShloMosaic Idealize.ShloMosaic.TcCoe Idealize.SL.Sem
open Idealize.ShloMosaic.StableHlo

/-! What each stretch of host lines leaves alone, and the stretches joined. -/

namespace Cert.Common

variable (U : KV) (W : RV)

/-- The kernel's masking and ranking leave the boxes and labels. -/
theorem kTop_keeps : kTop U (Proc.devRef .tc Cert.KernelIdeal.main_arg0) = U (Proc.devRef .tc Cert.KernelIdeal.main_arg0)
    ∧ kTop U (Proc.devRef .tc Cert.KernelIdeal.main_arg2) = U (Proc.devRef .tc Cert.KernelIdeal.main_arg2) := by
  refine ⟨?_, ?_⟩ <;> after_reads_simp

/-- The reference's masking and ranking leave the boxes and labels. -/
theorem rTop_keeps : rTop W (Proc.devRef .tc Cert.ReferenceIdeal.main_arg0) = W (Proc.devRef .tc Cert.ReferenceIdeal.main_arg0)
    ∧ rTop W (Proc.devRef .tc Cert.ReferenceIdeal.main_arg2) = W (Proc.devRef .tc Cert.ReferenceIdeal.main_arg2) := by
  refine ⟨?_, ?_⟩ <;> after_reads_simp

/-- Taking the boxes leaves the labels, the places and the values. -/
theorem k3_keeps : after Cert.KernelIdeal.Gen.hostOps0_3 U (Proc.devRef .tc Cert.KernelIdeal.main_arg2) = U (Proc.devRef .tc Cert.KernelIdeal.main_arg2)
    ∧ after Cert.KernelIdeal.Gen.hostOps0_3 U (Proc.devRef .tc Cert.KernelIdeal.main_indices) = U (Proc.devRef .tc Cert.KernelIdeal.main_indices)
    ∧ after Cert.KernelIdeal.Gen.hostOps0_3 U (Proc.devRef .tc Cert.KernelIdeal.main_values) = U (Proc.devRef .tc Cert.KernelIdeal.main_values) := by
  refine ⟨?_, ?_, ?_⟩ <;> after_reads_simp

/-- Taking the boxes leaves the labels, the places and the values. -/
theorem r3_keeps : after Cert.ReferenceIdeal.Gen.hostOps0_3 W (Proc.devRef .tc Cert.ReferenceIdeal.main_arg2) = W (Proc.devRef .tc Cert.ReferenceIdeal.main_arg2)
    ∧ after Cert.ReferenceIdeal.Gen.hostOps0_3 W (Proc.devRef .tc Cert.ReferenceIdeal.main_indices) = W (Proc.devRef .tc Cert.ReferenceIdeal.main_indices)
    ∧ after Cert.ReferenceIdeal.Gen.hostOps0_3 W (Proc.devRef .tc Cert.ReferenceIdeal.main_values) = W (Proc.devRef .tc Cert.ReferenceIdeal.main_values) := by
  refine ⟨?_, ?_, ?_⟩ <;> after_reads_simp

/-- Taking the labels leaves the values and the boxes. -/
theorem k4_keeps : after Cert.KernelIdeal.Gen.hostOps0_4 U (Proc.devRef .tc Cert.KernelIdeal.main_values) = U (Proc.devRef .tc Cert.KernelIdeal.main_values)
    ∧ after Cert.KernelIdeal.Gen.hostOps0_4 U (Proc.devRef .tc Cert.KernelIdeal.main_v3) = U (Proc.devRef .tc Cert.KernelIdeal.main_v3) := by
  refine ⟨?_, ?_⟩ <;> after_reads_simp

/-- Taking the labels leaves the values and the boxes. -/
theorem r4_keeps : after Cert.ReferenceIdeal.Gen.hostOps0_4 W (Proc.devRef .tc Cert.ReferenceIdeal.main_values) = W (Proc.devRef .tc Cert.ReferenceIdeal.main_values)
    ∧ after Cert.ReferenceIdeal.Gen.hostOps0_4 W (Proc.devRef .tc Cert.ReferenceIdeal.main_v3) = W (Proc.devRef .tc Cert.ReferenceIdeal.main_v3) := by
  refine ⟨?_, ?_⟩ <;> after_reads_simp

/-- The corners' lines leave the values, the boxes and the labels. -/
theorem k5_keeps : after Cert.KernelIdeal.Gen.hostOps0_5 U (Proc.devRef .tc Cert.KernelIdeal.main_values) = U (Proc.devRef .tc Cert.KernelIdeal.main_values)
    ∧ after Cert.KernelIdeal.Gen.hostOps0_5 U (Proc.devRef .tc Cert.KernelIdeal.main_v3) = U (Proc.devRef .tc Cert.KernelIdeal.main_v3)
    ∧ after Cert.KernelIdeal.Gen.hostOps0_5 U (Proc.devRef .tc Cert.KernelIdeal.main_v4) = U (Proc.devRef .tc Cert.KernelIdeal.main_v4) := by
  refine ⟨?_, ?_, ?_⟩ <;> after_reads_simp

/-- The corners' and overlaps' lines leave the values, the boxes and the labels. -/
theorem r5_keeps : after Cert.ReferenceIdeal.Gen.hostOps0_5 W (Proc.devRef .tc Cert.ReferenceIdeal.main_values) = W (Proc.devRef .tc Cert.ReferenceIdeal.main_values)
    ∧ after Cert.ReferenceIdeal.Gen.hostOps0_5 W (Proc.devRef .tc Cert.ReferenceIdeal.main_v3) = W (Proc.devRef .tc Cert.ReferenceIdeal.main_v3)
    ∧ after Cert.ReferenceIdeal.Gen.hostOps0_5 W (Proc.devRef .tc Cert.ReferenceIdeal.main_v4) = W (Proc.devRef .tc Cert.ReferenceIdeal.main_v4) := by
  refine ⟨?_, ?_, ?_⟩ <;> after_reads_simp

/-- Reading the verdicts leaves the values, the boxes and the labels. -/
theorem k6_keeps : after Cert.KernelIdeal.Gen.hostOps1 U (Proc.devRef .tc Cert.KernelIdeal.main_values) = U (Proc.devRef .tc Cert.KernelIdeal.main_values)
    ∧ after Cert.KernelIdeal.Gen.hostOps1 U (Proc.devRef .tc Cert.KernelIdeal.main_v3) = U (Proc.devRef .tc Cert.KernelIdeal.main_v3)
    ∧ after Cert.KernelIdeal.Gen.hostOps1 U (Proc.devRef .tc Cert.KernelIdeal.main_v4) = U (Proc.devRef .tc Cert.KernelIdeal.main_v4) := by
  refine ⟨?_, ?_, ?_⟩ <;> after_reads_simp

/-- The second ranking leaves the boxes and labels. -/
theorem kBest_keeps : kBest U (Proc.devRef .tc Cert.KernelIdeal.main_v3) = U (Proc.devRef .tc Cert.KernelIdeal.main_v3)
    ∧ kBest U (Proc.devRef .tc Cert.KernelIdeal.main_v4) = U (Proc.devRef .tc Cert.KernelIdeal.main_v4) := by
  refine ⟨?_, ?_⟩ <;> after_reads_simp

/-- The second ranking leaves the boxes and labels. -/
theorem rBest_keeps : rBest W (Proc.devRef .tc Cert.ReferenceIdeal.main_v3) = W (Proc.devRef .tc Cert.ReferenceIdeal.main_v3)
    ∧ rBest W (Proc.devRef .tc Cert.ReferenceIdeal.main_v4) = W (Proc.devRef .tc Cert.ReferenceIdeal.main_v4) := by
  refine ⟨?_, ?_⟩ <;> after_reads_simp

/-- The second taking of boxes leaves the labels, the places and the values. -/
theorem k13_keeps : after Cert.KernelIdeal.Gen.hostOps1_3 U (Proc.devRef .tc Cert.KernelIdeal.main_v4) = U (Proc.devRef .tc Cert.KernelIdeal.main_v4)
    ∧ after Cert.KernelIdeal.Gen.hostOps1_3 U (Proc.devRef .tc Cert.KernelIdeal.main_indices_22) = U (Proc.devRef .tc Cert.KernelIdeal.main_indices_22)
    ∧ after Cert.KernelIdeal.Gen.hostOps1_3 U (Proc.devRef .tc Cert.KernelIdeal.main_values_21) = U (Proc.devRef .tc Cert.KernelIdeal.main_values_21) := by
  refine ⟨?_, ?_, ?_⟩ <;> after_reads_simp

/-- The second taking of boxes leaves the labels, the places and the values. -/
theorem r9_keeps : after Cert.ReferenceIdeal.Gen.hostOps0_9 W (Proc.devRef .tc Cert.ReferenceIdeal.main_v4) = W (Proc.devRef .tc Cert.ReferenceIdeal.main_v4)
    ∧ after Cert.ReferenceIdeal.Gen.hostOps0_9 W (Proc.devRef .tc Cert.ReferenceIdeal.main_indices_15) = W (Proc.devRef .tc Cert.ReferenceIdeal.main_indices_15)
    ∧ after Cert.ReferenceIdeal.Gen.hostOps0_9 W (Proc.devRef .tc Cert.ReferenceIdeal.main_values_14) = W (Proc.devRef .tc Cert.ReferenceIdeal.main_values_14) := by
  refine ⟨?_, ?_, ?_⟩ <;> after_reads_simp

/-- The second taking of labels leaves the values and the boxes. -/
theorem k14_keeps : after Cert.KernelIdeal.Gen.hostOps1_4 U (Proc.devRef .tc Cert.KernelIdeal.main_values_21) = U (Proc.devRef .tc Cert.KernelIdeal.main_values_21)
    ∧ after Cert.KernelIdeal.Gen.hostOps1_4 U (Proc.devRef .tc Cert.KernelIdeal.main_v82) = U (Proc.devRef .tc Cert.KernelIdeal.main_v82) := by
  refine ⟨?_, ?_⟩ <;> after_reads_simp

/-- The second taking of labels leaves the values and the boxes. -/
theorem r10_keeps : after Cert.ReferenceIdeal.Gen.hostOps0_10 W (Proc.devRef .tc Cert.ReferenceIdeal.main_values_14) = W (Proc.devRef .tc Cert.ReferenceIdeal.main_values_14)
    ∧ after Cert.ReferenceIdeal.Gen.hostOps0_10 W (Proc.devRef .tc Cert.ReferenceIdeal.main_v87) = W (Proc.devRef .tc Cert.ReferenceIdeal.main_v87) := by
  refine ⟨?_, ?_⟩ <;> after_reads_simp

/-- The kernel's lines up to the corners and areas. -/
abbrev kPre : KV := after Cert.KernelIdeal.Gen.hostOps0_5 (after Cert.KernelIdeal.Gen.hostOps0_4 (after Cert.KernelIdeal.Gen.hostOps0_3 (kTop U)))
/-- The reference's lines up to the loop. -/
abbrev rPre : RV := after Cert.ReferenceIdeal.Gen.hostOps0_5 (after Cert.ReferenceIdeal.Gen.hostOps0_4 (after Cert.ReferenceIdeal.Gen.hostOps0_3 (rTop W)))

/-- From equal arguments the two programs reach the same values, boxes, labels, valid flags, corners and areas. -/
theorem pre_eq (h0 : U (Proc.devRef .tc Cert.KernelIdeal.main_arg0) = W (Proc.devRef .tc Cert.ReferenceIdeal.main_arg0)) (h1 : U (Proc.devRef .tc Cert.KernelIdeal.main_arg1) = W (Proc.devRef .tc Cert.ReferenceIdeal.main_arg1)) (h2 : U (Proc.devRef .tc Cert.KernelIdeal.main_arg2) = W (Proc.devRef .tc Cert.ReferenceIdeal.main_arg2)) :
    (kPre U (Proc.devRef .tc Cert.KernelIdeal.main_values) = rPre W (Proc.devRef .tc Cert.ReferenceIdeal.main_values)
    ∧ kPre U (Proc.devRef .tc Cert.KernelIdeal.main_v3) = rPre W (Proc.devRef .tc Cert.ReferenceIdeal.main_v3)
    ∧ kPre U (Proc.devRef .tc Cert.KernelIdeal.main_v4) = rPre W (Proc.devRef .tc Cert.ReferenceIdeal.main_v4)
    ∧ kPre U (Proc.devRef .tc Cert.KernelIdeal.main_v6) = rPre W (Proc.devRef .tc Cert.ReferenceIdeal.main_v6))
    ∧ kPre U (Proc.devRef .tc Cert.KernelIdeal.main_v34) = rPre W (Proc.devRef .tc Cert.ReferenceIdeal.main_v34)
    ∧ kPre U (Proc.devRef .tc Cert.KernelIdeal.main_v37) = rPre W (Proc.devRef .tc Cert.ReferenceIdeal.main_v37)
    ∧ kPre U (Proc.devRef .tc Cert.KernelIdeal.main_v40) = rPre W (Proc.devRef .tc Cert.ReferenceIdeal.main_v40)
    ∧ kPre U (Proc.devRef .tc Cert.KernelIdeal.main_v43) = rPre W (Proc.devRef .tc Cert.ReferenceIdeal.main_v43)
    ∧ kPre U (Proc.devRef .tc Cert.KernelIdeal.main_v46) = rPre W (Proc.devRef .tc Cert.ReferenceIdeal.main_v46) := by
  have hv := values_eq U W h1
  have hi := indices_eq U W h1
  have hb := boxes_eq (kTop U) (rTop W) ((kTop_keeps U).1.trans (h0.trans (rTop_keeps W).1.symm)) hi
  have hl := labels_eq (after Cert.KernelIdeal.Gen.hostOps0_3 (kTop U)) (after Cert.ReferenceIdeal.Gen.hostOps0_3 (rTop W))
    ((k3_keeps _).1.trans ((kTop_keeps U).2.trans (h2.trans ((rTop_keeps W).2.symm.trans (r3_keeps _).1.symm))))
    ((k3_keeps _).2.1.trans (hi.trans (r3_keeps _).2.1.symm))
  have hv4 := (k4_keeps (after Cert.KernelIdeal.Gen.hostOps0_3 (kTop U))).1.trans ((k3_keeps _).2.2.trans (hv.trans
    ((r3_keeps _).2.2.symm.trans (r4_keeps (after Cert.ReferenceIdeal.Gen.hostOps0_3 (rTop W))).1.symm)))
  have hb4 := (k4_keeps (after Cert.KernelIdeal.Gen.hostOps0_3 (kTop U))).2.trans (hb.trans (r4_keeps (after Cert.ReferenceIdeal.Gen.hostOps0_3 (rTop W))).2.symm)
  exact ⟨⟨(k5_keeps _).1.trans (hv4.trans (r5_keeps _).1.symm), (k5_keeps _).2.1.trans (hb4.trans (r5_keeps _).2.1.symm),
    (k5_keeps _).2.2.trans (hl.trans (r5_keeps _).2.2.symm), valid_eq _ _ hv4⟩, corners_eq _ _ hb4 hl⟩

/-- The kernel's lines after the call, to the results. -/
abbrev kPost : KV := kEnd (after Cert.KernelIdeal.Gen.hostOps1_4 (after Cert.KernelIdeal.Gen.hostOps1_3 (kBest (after Cert.KernelIdeal.Gen.hostOps1 U))))
/-- The reference's lines after the loop, to the results. -/
abbrev rPost : RV := rEnd (after Cert.ReferenceIdeal.Gen.hostOps0_10 (after Cert.ReferenceIdeal.Gen.hostOps0_9 (rBest W)))

/-- The fill of the kernel's second ranking. -/
theorem fill_eq : after Cert.KernelIdeal.Gen.hostOps1 U (Proc.devRef .tc Cert.KernelIdeal.main_cst_20) = constant (F := Ideal) Cert.KernelIdeal.S_ .f32 0xD01502F9#32 := by
  after_reads_simp

/-- From equal values, boxes, labels and kept flags the two programs reach the same results. -/
theorem post_eq (hv : U (Proc.devRef .tc Cert.KernelIdeal.main_values) = W (Proc.devRef .tc Cert.ReferenceIdeal.main_values)) (hb : U (Proc.devRef .tc Cert.KernelIdeal.main_v3) = W (Proc.devRef .tc Cert.ReferenceIdeal.main_v3)) (hl : U (Proc.devRef .tc Cert.KernelIdeal.main_v4) = W (Proc.devRef .tc Cert.ReferenceIdeal.main_v4))
    (hk : after Cert.KernelIdeal.Gen.hostOps1 U (Proc.devRef .tc Cert.KernelIdeal.main_v80) = W (Proc.devRef .tc Cert.ReferenceIdeal.main_v85_4)) :
    kPost U (Proc.devRef .tc Cert.KernelIdeal.main_v88) = rPost W (Proc.devRef .tc Cert.ReferenceIdeal.main_v93)
    ∧ kPost U (Proc.devRef .tc Cert.KernelIdeal.main_v89) = rPost W (Proc.devRef .tc Cert.ReferenceIdeal.main_v94)
    ∧ kPost U (Proc.devRef .tc Cert.KernelIdeal.main_v86) = rPost W (Proc.devRef .tc Cert.ReferenceIdeal.main_v91) := by
  obtain ⟨k6v, k6b, k6l⟩ := k6_keeps U
  obtain ⟨hbv, hbi⟩ := best_eq (after Cert.KernelIdeal.Gen.hostOps1 U) W (fill_eq U) hk (k6v.trans hv)
  have hbb := best_boxes_eq (kBest (after Cert.KernelIdeal.Gen.hostOps1 U)) (rBest W)
    ((kBest_keeps _).1.trans (k6b.trans (hb.trans (rBest_keeps W).1.symm))) hbi
  have hbl := best_labels_eq (after Cert.KernelIdeal.Gen.hostOps1_3 (kBest (after Cert.KernelIdeal.Gen.hostOps1 U))) (after Cert.ReferenceIdeal.Gen.hostOps0_9 (rBest W))
    ((k13_keeps _).1.trans ((kBest_keeps _).2.trans (k6l.trans (hl.trans ((rBest_keeps W).2.symm.trans (r9_keeps _).1.symm)))))
    ((k13_keeps _).2.1.trans (hbi.trans (r9_keeps _).2.1.symm))
  have hv' := (k14_keeps (after Cert.KernelIdeal.Gen.hostOps1_3 (kBest (after Cert.KernelIdeal.Gen.hostOps1 U)))).1.trans ((k13_keeps _).2.2.trans (hbv.trans
    ((r9_keeps _).2.2.symm.trans (r10_keeps (after Cert.ReferenceIdeal.Gen.hostOps0_9 (rBest W))).1.symm)))
  have hb' := (k14_keeps (after Cert.KernelIdeal.Gen.hostOps1_3 (kBest (after Cert.KernelIdeal.Gen.hostOps1 U)))).2.trans (hbb.trans
    (r10_keeps (after Cert.ReferenceIdeal.Gen.hostOps0_9 (rBest W))).2.symm)
  exact ⟨end_boxes _ _ hv' hb', end_labels _ _ hv' hbl, end_scores _ _ hv'⟩

end Cert.Common
-- ==== Proof.Call.lean ====
module

public import proofs.«01_k».proof.Proof.Out
public import proofs.«01_k».proof.Proof.Mid
public import proofs.«01_k».proof.Proof.Join

@[expose] public section

set_option maxRecDepth 16384

noncomputable section

open Idealize.ShloMosaic Idealize.ShloMosaic.TcCoe Idealize.SL.Sem
open Idealize.ShloMosaic.StableHlo

/-! The kernel's program around its call: what the call is given, and what the lines after it read. -/

namespace Cert.KernelIdeal.Value

open Cert.KernelIdeal Cert.KernelIdeal.Gen
open Cert.Common (kPre kPost)

/-- The constant the kept flags are tested against is one half. -/
theorem half_eq : Ideal.ofBits .f32 0x3F000000#32 = ((1 / 2 : ℝ) : EReal) := by
  simp [Ideal.ofBits, Ideal.ieee, -EReal.coe_mul]
  norm_num

/-- A stored truth value, tested against one half, is that truth value. -/
theorem over_b01 (b : Bool) : over (b01 b) = b := by
  unfold over
  rw [half_eq]
  cases b
  · rw [b01_false, decide_eq_false_iff_not, ← EReal.coe_zero, EReal.coe_lt_coe_iff]
    norm_num
  · rw [b01_true, decide_eq_true_iff, ← EReal.coe_one, EReal.coe_lt_coe_iff]
    norm_num

/-- The kept flag of a candidate is its verdict, tested against one half. -/
theorem kept_at (A : Valuation τ sig (Elt Ideal)) (j : Fin 1000) : (after hostOps1 A (Proc.devRef .tc main_v80) : IVec S1000 1) (ix1 j)
    = BitVec.ofBool (over ((A (Proc.devRef .tc main_v76) : Vec Ideal S1x1024 .f32) (ix2 0 ⟨j.val, by omega⟩))) := by
  after_reads_at
  rfl

/-- Laying out the kernel's inputs leaves the values, the boxes and the labels. -/
theorem mid_keeps (U : Valuation τ sig (Elt Ideal)) : mid U (Proc.devRef .tc main_values) = U (Proc.devRef .tc main_values)
    ∧ mid U (Proc.devRef .tc main_v3) = U (Proc.devRef .tc main_v3)
    ∧ mid U (Proc.devRef .tc main_v4) = U (Proc.devRef .tc main_v4) := by
  simp only [mid, afterL_cons, afterL_nil]
  refine ⟨?_, ?_, ?_⟩ <;> after_reads_simp

variable (m : (ℓ : Loc nD τ sig) → Buf (Elt Ideal) ℓ) (c : Dev nD)

/-- What the program starts from on a device. -/
abbrev start : Valuation τ sig (Elt Ideal) := fun b => m (c, b)

/-- What the call finds, in two parts. -/
theorem entry_eq : V0 m c = mid (kPre (start m c)) := by
  refine (afterL_eq_after_flatten _ _).symm.trans ?_
  simp only [afterL_cons, afterL_nil]

/-- What the lines after the call start from. -/
abbrev left : Valuation τ sig (Elt Ideal) := Pipeline.withArrays spec0 c (V0 m c) fun w => (dats m 0 c).arrAt w cfg0.N

/-- The call leaves the values, the boxes and the labels. -/
theorem left_keeps : left m c (Proc.devRef .tc main_values) = kPre (start m c) (Proc.devRef .tc main_values)
    ∧ left m c (Proc.devRef .tc main_v3) = kPre (start m c) (Proc.devRef .tc main_v3)
    ∧ left m c (Proc.devRef .tc main_v4) = kPre (start m c) (Proc.devRef .tc main_v4) := by
  obtain ⟨h0, h1, h2⟩ := mid_keeps (kPre (start m c))
  refine ⟨?_, ?_, ?_⟩
  · rw [left, Pipeline.withArrays_of_ne _ c (V0 m c) _ main_values (by decide : ∀ w, Pipeline.arrRef spec0 w ≠ main_values), entry_eq, h0]
  · rw [left, Pipeline.withArrays_of_ne _ c (V0 m c) _ main_v3 (by decide : ∀ w, Pipeline.arrRef spec0 w ≠ main_v3), entry_eq, h1]
  · rw [left, Pipeline.withArrays_of_ne _ c (V0 m c) _ main_v4 (by decide : ∀ w, Pipeline.arrRef spec0 w ≠ main_v4), entry_eq, h2]

/-- The call leaves the greedy verdicts in its result. -/
theorem left_verdict (v : ℕ → Bool) (hv : ∀ j : Fin 1024, rows m c (ix2 5 j) = b01 (v j.val)) :
    left m c (Proc.devRef .tc main_v76) = verdict m v c :=
  (Pipeline.withArrays_arr spec0 (by decide) c (V0 m c) _ 2).trans (final_o m v c hv)

/-- The flags the lines after the call read: the greedy verdicts of the thousand candidates. -/
theorem kept_left (v : ℕ → Bool) (hv : ∀ j : Fin 1024, rows m c (ix2 5 j) = b01 (v j.val)) (j : Fin 1000) :
    (after hostOps1 (left m c) (Proc.devRef .tc main_v80) : IVec S1000 1) (ix1 j)
      = BitVec.ofBool ((Greedy.nms v (adjN (rows m c) (cols m c)) 1000).1 j.val) := by
  rw [kept_at, left_verdict m c v hv]
  show BitVec.ofBool (over (b01 ((Greedy.nms v (adjN (rows m c) (cols m c)) (1000 + 24)).1 j.val))) = _
  rw [over_b01, Greedy.nms_keep_stable v _ 1000 24 j.val j.isLt]

/-- A result, from the contents the call leaves. -/
theorem tail_eq (b : Ref sig .tc) : Pipeline.afterTail₀ cfgs (dats m) 0 (V0 m) [hostOps1, hostOps1_1, hostOps1_2, hostOps1_3, hostOps1_4, hostOps1_5, hostOps1_6, hostOps1_7, hostOps1_8, hostOps1_9, hostOps1_10] c b
    = kPost (left m c) (Proc.devRef .tc b) := by
  unfold Pipeline.afterTail₀
  refine (congrFun (afterL_eq_after_flatten _ _).symm _).trans ?_
  simp only [afterL_cons, afterL_nil]

end Cert.KernelIdeal.Value

end
-- ==== Proof.SetOne.lean ====
module

public import proofs.«01_k».proof.Proof.Gen.ReferenceIdeal.Run
public import Idealize.ShloMosaic.Lib.Routing.OpsOne

@[expose] public section

namespace Cert.ReferenceIdeal.Value

open Cert.ReferenceIdeal Cert.ReferenceIdeal.Gen
open Idealize.ShloMosaic Idealize.ShloMosaic.ValueIdx Idealize.ShloMosaic.Routing

/-- Setting one flag of a thousand: entry `k` becomes the update, every other entry stays. -/
theorem set_one (x : IVec S1000 1) (idx : IVec S1 32) (upd : IVec S_ 1) (k : ℕ) (hk : k < 1000)
    (hidx : ∀ i, (idx i).toInt = (k : Int)) (y : S1000.Idx) :
    Host.scatter scatter_S1000_S1_S__n_0_0_0 (fun _ b => b) x idx upd y = if (y 0).val = k then upd ix0 else x y := by
  obtain ⟨e, rfl⟩ : ∃ e : Fin 1000, y = ix1 e := ⟨y 0, eq_ix1 y⟩
  have hl := lands_one scatter_S1000_S1_S__n_0_0_0 rfl rfl idx ⟨k, hk⟩ (hidx _) e
  show _ = if e.val = k then _ else _
  by_cases h : e.val = k
  · rw [if_pos h]
    exact scatter_set_hit _ x idx upd _ _ (fun j _ => congrArg upd (eq_ix0 j)) ix0 (hl.2 (Fin.ext h))
  · rw [if_neg h]
    exact scatter_set_miss _ x idx upd _ fun j hj => h (Fin.ext_iff.1 (hl.1 (by rw [← eq_ix0 j]; exact hj)))

end Cert.ReferenceIdeal.Value
-- ==== Proof.Loop.lean ====
module

public import proofs.«01_k».proof.Proof.SetOne
public import proofs.«01_k».proof.Proof.Chunk
public import proofs.«01_k».proof.Proof.Greedy
public import Idealize.ShloMosaic.Lib.DynamicIndex
public import Idealize.ShloMosaic.Lib.Pointwise
public import Idealize.ShloMosaic.PureOps.Ideal

@[expose] public section

set_option maxRecDepth 16384

noncomputable section

open Idealize.ShloMosaic Idealize.ShloMosaic.TcCoe Idealize.SL.Sem
open Idealize.ShloMosaic.StableHlo

/-! The reference's loop: one candidate a trip, in rank order, is the greedy suppression over truth values. -/

namespace Cert.ReferenceIdeal.Value

open Cert.ReferenceIdeal Cert.ReferenceIdeal.Gen
open Cert.KernelIdeal.Value (over)

/-- A thousand truth values as a vector of one-bit words. -/
def word (f : ℕ → Bool) : IVec S1000 1 := fun y => BitVec.ofBool (f (y 0).val)

/-- One overlaps another by more than the threshold, from the matrix of overlaps. -/
def adjM (M : Vec Ideal S1000x1000 .f32) (i j : ℕ) : Bool :=
  if h : i < 1000 ∧ j < 1000 then over (M (ix2 ⟨i, h.1⟩ ⟨j, h.2⟩)) else false

/-- The flag that a dynamic slice at `k` reads. -/
theorem flag_at (f : ℕ → Bool) (k : ℕ) (hk : k < 1000) (st : Fin S1000.rank → Int) (hst : ∀ a, st a = (k : Int)) :
    shapeCast S_ (Host.dynamicSlice S1 (word f) st sliceFits_S1000_S1) shapeCasts_S1_S_ = fun _ => BitVec.ofBool (f k) := by
  have hoff : S1000.Slices (fun _ => k) S1 := ⟨rfl, fun a => by
    match a with
    | ⟨0, _⟩ => show k + 1 ≤ 1000; omega⟩
  rw [Host.dynamicSlice_eq_extractStridedSlice S1 (word f) st (fun _ => k) sliceFits_S1000_S1 hoff hst]
  funext z
  have h0 : ∀ q : S1.Idx, extractStridedSlice S1 (fun _ => k) (word f) hoff q = BitVec.ofBool (f k) := fun q => by
    have hq : (q 0).val = 0 := Nat.lt_one_iff.1 (q 0).isLt
    show BitVec.ofBool (f (k + (q 0).val)) = _
    rw [hq, Nat.add_zero]
  exact h0 _

/-- The row of overlaps that a dynamic slice at `k` reads. -/
theorem row_iou (M : Vec Ideal S1000x1000 .f32) (k : ℕ) (hk : k < 1000) (st : Fin S1000x1000.rank → Int)
    (hst : ∀ a, st a = ((![k, 0] : Fin 2 → ℕ) a : Int)) (j : Fin 1000) :
    shapeCast S1000 (Host.dynamicSlice S1x1000 M st sliceFits_S1000x1000_S1x1000) shapeCasts_S1x1000_S1000 (ix1 j)
      = M (ix2 ⟨k, hk⟩ j) := by
  have hoff : S1000x1000.Slices ![k, 0] S1x1000 := ⟨rfl, fun a => by
    match a with
    | ⟨0, _⟩ => show k + 1 ≤ 1000; omega
    | ⟨1, _⟩ => show 0 + 1000 ≤ 1000; omega⟩
  rw [Host.dynamicSlice_eq_extractStridedSlice S1x1000 M st ![k, 0] sliceFits_S1000x1000_S1x1000 hoff hst]
  pointwise

/-- Before trip `k`: the valid flags and the overlaps as at the loop's entry, the candidate's number, and the verdicts so far. -/
structure Inv (v : ℕ → Bool) (M : Vec Ideal S1000x1000 .f32) (k : ℕ) (X : Valuation τ sig (Elt Ideal)) : Prop where
  valid : X (Proc.devRef .tc main_v85_0) = word v
  iou : X (Proc.devRef .tc main_v85_1) = M
  num : X (Proc.devRef .tc main_v85_3) = fun _ => BitVec.ofNat 32 k
  keep : X (Proc.devRef .tc main_v85_4) = word (Greedy.nms v (adjM M) k).1
  sup : X (Proc.devRef .tc main_v85_5) = word (Greedy.nms v (adjM M) k).2

variable {v : ℕ → Bool} {M : Vec Ideal S1000x1000 .f32} {k : ℕ} {X : Valuation τ sig (Elt Ideal)}

/-- The wrapped index, read signed, is the candidate's number. -/
theorem wrap (hk : k < 1000) (d : IVec S_ 32) (i : S_.Idx) :
    (select (cmpi .slt (fun _ => BitVec.ofNat 32 k : IVec S_ 32) (constantI S_ 32 0#32)) d (fun _ => BitVec.ofNat 32 k) i).toInt = (k : Int) := by
  have h : (BitVec.ofNat 32 k).toInt = k := toInt_ofNat_of_lt (by omega)
  rw [select_slt_zero_of_nonneg _ _ _ i (by show 0 ≤ (BitVec.ofNat 32 k).toInt; rw [h]; omega)]
  exact h

/-- Whether candidate `k` is kept. -/
theorem ok_eq (h : Inv v M k X) (hk : k < 1000) :
    res_main_while0b_v109 X = fun _ => BitVec.ofBool (v k && !(Greedy.nms v (adjM M) k).2 k) := by
  unfold res_main_while0b_v109
  rw [h.valid, h.sup, h.num]
  rw [flag_at _ k hk _ (fun a => by fin_cases a; exact wrap hk _ _), flag_at _ k hk _ (fun a => by fin_cases a; exact wrap hk _ _)]
  funext z
  show BitVec.ofBool _ &&& ~~~ BitVec.ofBool _ = _
  cases v k <;> cases (Greedy.nms v (adjM M) k).2 k <;> rfl

/-- One trip of the loop is one step of the greedy suppression. -/
theorem inv_step (h : Inv v M k X) (hk : k < 1000) : Inv v M (k + 1) (STEP X) where
  valid := (STEP_main_v85_0 X).trans h.valid
  iou := (STEP_main_v85_1 X).trans h.iou
  num := by
    rw [STEP_main_v85_3]
    unfold step_main_v85_3
    rw [h.num]
    funext z
    show BitVec.ofNat 32 k + 1#32 = BitVec.ofNat 32 (k + 1)
    rw [BitVec.ofNat_add]
  keep := by
    rw [STEP_main_v85_4]
    unfold step_main_v85_4
    rw [ok_eq h hk, h.keep, h.num]
    funext y
    refine (set_one _ _ _ k hk (fun i => wrap hk _ _) y).trans ?_
    show _ = BitVec.ofBool (if (y 0).val = k then (v k && !(Greedy.nms v (adjM M) k).2 k) else (Greedy.nms v (adjM M) k).1 (y 0).val)
    split <;> rfl
  sup := by
    rw [STEP_main_v85_5]
    unfold step_main_v85_5 res_main_while0b_v116
    rw [ok_eq h hk, h.sup, h.num, h.iou]
    funext y
    obtain ⟨j, rfl⟩ : ∃ j : Fin 1000, y = ix1 j := ⟨y 0, eq_ix1 y⟩
    change Scalar.select (BitVec.ofBool _) (BitVec.ofBool ((Greedy.nms v (adjM M) k).2 j.val)
      ||| BitVec.ofBool (over (shapeCast S1000 (Host.dynamicSlice S1x1000 M _ _) _ (ix1 j)))) (BitVec.ofBool ((Greedy.nms v (adjM M) k).2 j.val)) = _
    rw [row_iou M k hk _ (fun a => by
      match a with
      | ⟨0, _⟩ => exact wrap hk _ _
      | ⟨1, _⟩ => rfl) j]
    have ha : adjM M k j.val = over (M (ix2 ⟨k, hk⟩ j)) := dif_pos ⟨hk, j.isLt⟩
    rw [← ha]
    show _ = BitVec.ofBool ((Greedy.nms v (adjM M) k).2 j.val || (adjM M k j.val && (v k && !(Greedy.nms v (adjM M) k).2 k)))
    generalize (Greedy.nms v (adjM M) k).2 j.val = s, adjM M k j.val = a, (v k && !(Greedy.nms v (adjM M) k).2 k) = o
    cases s <;> cases a <;> cases o <;> rfl

variable (m : (ℓ : Loc nD τ sig) → Buf (Elt Ideal) ℓ)

/-- `k` trips on from the loop's entry. -/
theorem inv_iter {X₀ : Valuation τ sig (Elt Ideal)} (h : Inv v M 0 X₀) : ∀ k ≤ 1000, Inv v M k (STEP^[k] X₀)
  | 0, _ => h
  | k + 1, hk => by
    rw [Function.iterate_succ_apply']
    exact inv_step (inv_iter h k (by omega)) (by omega)

/-- The verdicts at the loop's end. -/
theorem keep_final (c : Dev nD) (h : Inv v M 0 (entryContents preI m c)) :
    atK m 1000 c (Proc.devRef .tc main_v85_4) = word (Greedy.nms v (adjM M) 1000).1 :=
  (atK_agree m c 1000 main_v85_4 (by decide)).trans (inv_iter h 1000 le_rfl).keep

/-- A buffer that neither the loop's condition nor its body writes keeps its contents through the trips. -/
theorem atK_keep (c : Dev nD) (b : Ref sig .tc) (hb : ∀ X : Valuation τ sig (Elt Ideal), afterL bodyI (after condOps X) (Proc.devRef .tc b) = X (Proc.devRef .tc b)) :
    ∀ k, atK m k c (Proc.devRef .tc b) = entryContents preI m c (Proc.devRef .tc b)
  | 0 => rfl
  | k + 1 => (hb _).trans (atK_keep c b hb k)

theorem trip_values (X : Valuation τ sig (Elt Ideal)) : afterL bodyI (after condOps X) (Proc.devRef .tc main_values) = X (Proc.devRef .tc main_values) := by
  simp only [bodyI, afterL_cons, afterL_nil]
  after_reads_simp

theorem trip_boxes (X : Valuation τ sig (Elt Ideal)) : afterL bodyI (after condOps X) (Proc.devRef .tc main_v3) = X (Proc.devRef .tc main_v3) := by
  simp only [bodyI, afterL_cons, afterL_nil]
  after_reads_simp

theorem trip_labels (X : Valuation τ sig (Elt Ideal)) : afterL bodyI (after condOps X) (Proc.devRef .tc main_v4) = X (Proc.devRef .tc main_v4) := by
  simp only [bodyI, afterL_cons, afterL_nil]
  after_reads_simp

end Cert.ReferenceIdeal.Value
-- ==== Proof.Entry.lean ====
module

public import proofs.«01_k».proof.Proof.Loop
public import Idealize.ShloMosaic.Lib.StableHlo.ReadAt

@[expose] public section

set_option maxRecDepth 16384

noncomputable section

open Idealize.ShloMosaic Idealize.ShloMosaic.TcCoe Idealize.SL.Sem
open Idealize.ShloMosaic.StableHlo

/-! What the reference's loop starts from. -/

namespace Cert.ReferenceIdeal.Value

open Cert.ReferenceIdeal Cert.ReferenceIdeal.Gen
open Cert.KernelIdeal.Value (over iouOf)

/-- The operations after the boxes' corners and areas: the overlaps of all pairs and the loop's starting values. -/
abbrev pairOps : List (HloOp τ sig (Elt Ideal)) := hostOps0_5.drop 48

/-- The stretch before the loop, cut before the pairs. -/
theorem cut (W : Valuation τ sig (Elt Ideal)) : after hostOps0_5 W = after pairOps (after (hostOps0_5.take 48) W) := by
  rw [← after_append, List.take_append_drop]

variable (Y : Valuation τ sig (Elt Ideal))

/-- They leave the corners and the areas alone. -/
theorem pair_keeps : after pairOps Y (Proc.devRef .tc main_v34) = Y (Proc.devRef .tc main_v34)
    ∧ after pairOps Y (Proc.devRef .tc main_v37) = Y (Proc.devRef .tc main_v37)
    ∧ after pairOps Y (Proc.devRef .tc main_v40) = Y (Proc.devRef .tc main_v40)
    ∧ after pairOps Y (Proc.devRef .tc main_v43) = Y (Proc.devRef .tc main_v43)
    ∧ after pairOps Y (Proc.devRef .tc main_v46) = Y (Proc.devRef .tc main_v46) := by
  simp only [pairOps, hostOps0_5, List.drop]
  refine ⟨?_, ?_, ?_, ?_, ?_⟩ <;> after_reads_simp

/-- The overlap of candidate `i` with candidate `j`. -/
theorem pair_iou (i j : Fin 1000) : (after pairOps Y (Proc.devRef .tc main_v85_1) : Vec Ideal S1000x1000 .f32) (ix2 i j)
    = iouOf (Y (Proc.devRef .tc main_v34) (ix1 i)) (Y (Proc.devRef .tc main_v37) (ix1 i)) (Y (Proc.devRef .tc main_v40) (ix1 i))
        (Y (Proc.devRef .tc main_v43) (ix1 i)) (Y (Proc.devRef .tc main_v46) (ix1 i))
        (Y (Proc.devRef .tc main_v34) (ix1 j)) (Y (Proc.devRef .tc main_v37) (ix1 j)) (Y (Proc.devRef .tc main_v40) (ix1 j))
        (Y (Proc.devRef .tc main_v43) (ix1 j)) (Y (Proc.devRef .tc main_v46) (ix1 j)) := by
  simp only [pairOps, hostOps0_5, List.drop]
  after_reads_at
  rw [id]
  pointwise
  rfl

variable (W : Valuation τ sig (Elt Ideal))

/-- The overlaps at the loop's entry, from the corners and areas there. -/
theorem entry_iou (i j : Fin 1000) : (after hostOps0_5 W (Proc.devRef .tc main_v85_1) : Vec Ideal S1000x1000 .f32) (ix2 i j)
    = iouOf (after hostOps0_5 W (Proc.devRef .tc main_v34) (ix1 i)) (after hostOps0_5 W (Proc.devRef .tc main_v37) (ix1 i))
        (after hostOps0_5 W (Proc.devRef .tc main_v40) (ix1 i)) (after hostOps0_5 W (Proc.devRef .tc main_v43) (ix1 i))
        (after hostOps0_5 W (Proc.devRef .tc main_v46) (ix1 i))
        (after hostOps0_5 W (Proc.devRef .tc main_v34) (ix1 j)) (after hostOps0_5 W (Proc.devRef .tc main_v37) (ix1 j))
        (after hostOps0_5 W (Proc.devRef .tc main_v40) (ix1 j)) (after hostOps0_5 W (Proc.devRef .tc main_v43) (ix1 j))
        (after hostOps0_5 W (Proc.devRef .tc main_v46) (ix1 j)) := by
  obtain ⟨h34, h37, h40, h43, h46⟩ := pair_keeps (after (hostOps0_5.take 48) W)
  rw [cut, h34, h37, h40, h43, h46]
  exact pair_iou _ i j

/-- A vector of one-bit words as truth values, false past its end. -/
def bits (w : IVec S1000 1) (j : ℕ) : Bool := if h : j < 1000 then w (ix1 ⟨j, h⟩) == 1#1 else false

/-- Words, to truth values and back. -/
theorem word_bits (w : IVec S1000 1) : word (bits w) = w := by
  funext y
  obtain ⟨j, rfl⟩ : ∃ j : Fin 1000, y = ix1 j := ⟨y 0, eq_ix1 y⟩
  show BitVec.ofBool (if h : j.val < 1000 then w (ix1 ⟨j.val, h⟩) == 1#1 else false) = w (ix1 j)
  rw [dif_pos j.isLt]
  generalize w (ix1 j) = b
  revert b
  decide

/-- The loop starts with nothing kept and nothing suppressed. -/
theorem entry_inv : Inv (bits (after hostOps0_5 W (Proc.devRef .tc main_v6))) (after hostOps0_5 W (Proc.devRef .tc main_v85_1)) 0 (after hostOps0_5 W) where
  valid := by
    rw [word_bits]
    after_reads_simp
    rfl
  iou := rfl
  num := by
    after_reads_simp
    rfl
  keep := by
    after_reads_simp
    rfl
  sup := by
    after_reads_simp
    rfl

end Cert.ReferenceIdeal.Value
-- ==== Proof.Ending.lean ====
module

public import proofs.«01_k».proof.Proof.Call
public import proofs.«01_k».proof.Proof.Entry
public import proofs.«01_k».proof.Proof.Gen.KernelIdeal.Frame
public import Idealize.ShloMosaic.Lib.Claim
public import Idealize.ShloMosaic.Lib.Quiescent

@[expose] public section

set_option maxRecDepth 16384

noncomputable section

open Idealize.ShloMosaic Idealize.ShloMosaic.TcCoe Idealize.SL.Sem
open Idealize.ShloMosaic.StableHlo

/-! The reference's run in parts, and the two runs' results compared. -/

namespace Cert.ReferenceIdeal.Value

open Cert.ReferenceIdeal Cert.ReferenceIdeal.Gen
open Cert.Common (rPre rPost)

variable (m : (ℓ : Loc nD τ sig) → Buf (Elt Ideal) ℓ) (c : Dev nD)

/-- What the loop starts from. -/
theorem entry_split : entryContents preI m c = rPre (launchContents m c) := by
  simp only [entryContents, afterL_cons, afterL_nil]

/-- What the lines after the loop start from. -/
abbrev exit : Valuation τ sig (Elt Ideal) := after condOps (atK m 1000 c)

/-- A buffer's contents at the end, from those after the loop. -/
theorem final_split : finalContents condOps preI bodyI postI 1000 m c = rPost (exit m c) := by
  simp only [finalContents, afterL_cons, afterL_nil]

theorem cond_values (X : Valuation τ sig (Elt Ideal)) : after condOps X (Proc.devRef .tc main_values) = X (Proc.devRef .tc main_values) := by
  after_reads_simp

theorem cond_boxes (X : Valuation τ sig (Elt Ideal)) : after condOps X (Proc.devRef .tc main_v3) = X (Proc.devRef .tc main_v3) := by
  after_reads_simp

theorem cond_labels (X : Valuation τ sig (Elt Ideal)) : after condOps X (Proc.devRef .tc main_v4) = X (Proc.devRef .tc main_v4) := by
  after_reads_simp

/-- The loop leaves the values, the boxes and the labels. -/
theorem exit_keeps : exit m c (Proc.devRef .tc main_values) = rPre (launchContents m c) (Proc.devRef .tc main_values)
    ∧ exit m c (Proc.devRef .tc main_v3) = rPre (launchContents m c) (Proc.devRef .tc main_v3)
    ∧ exit m c (Proc.devRef .tc main_v4) = rPre (launchContents m c) (Proc.devRef .tc main_v4) := by
  rw [← entry_split]
  exact ⟨(cond_values _).trans (atK_keep m c main_values trip_values 1000), (cond_boxes _).trans (atK_keep m c main_v3 trip_boxes 1000),
    (cond_labels _).trans (atK_keep m c main_v4 trip_labels 1000)⟩

/-- The loop leaves the greedy verdicts. -/
theorem exit_keep : exit m c (Proc.devRef .tc main_v85_4)
    = word (Greedy.nms (bits (rPre (launchContents m c) (Proc.devRef .tc main_v6))) (adjM (rPre (launchContents m c) (Proc.devRef .tc main_v85_1))) 1000).1 :=
  (cond_keeps (atK m 1000 c) main_v85_4 (by decide)).trans (keep_final m c (by rw [entry_split]; exact entry_inv _))

/-- The lines before the loop leave the arguments. -/
theorem pre_args (X : Valuation τ sig (Elt Ideal)) : afterL preI X (Proc.devRef .tc main_arg0) = X (Proc.devRef .tc main_arg0)
    ∧ afterL preI X (Proc.devRef .tc main_arg1) = X (Proc.devRef .tc main_arg1)
    ∧ afterL preI X (Proc.devRef .tc main_arg2) = X (Proc.devRef .tc main_arg2) := by
  simp only [preI, afterL_cons, afterL_nil]
  refine ⟨?_, ?_, ?_⟩ <;> after_reads_simp

/-- One trip of the loop leaves the arguments. -/
theorem trip_args (X : Valuation τ sig (Elt Ideal)) : afterL bodyI (after condOps X) (Proc.devRef .tc main_arg0) = X (Proc.devRef .tc main_arg0)
    ∧ afterL bodyI (after condOps X) (Proc.devRef .tc main_arg1) = X (Proc.devRef .tc main_arg1)
    ∧ afterL bodyI (after condOps X) (Proc.devRef .tc main_arg2) = X (Proc.devRef .tc main_arg2) := by
  simp only [bodyI, afterL_cons, afterL_nil]
  refine ⟨?_, ?_, ?_⟩ <;> after_reads_simp

/-- The last run of the condition and the lines after it leave the arguments. -/
theorem post_args (X : Valuation τ sig (Elt Ideal)) : afterL postI (after condOps X) (Proc.devRef .tc main_arg0) = X (Proc.devRef .tc main_arg0)
    ∧ afterL postI (after condOps X) (Proc.devRef .tc main_arg1) = X (Proc.devRef .tc main_arg1)
    ∧ afterL postI (after condOps X) (Proc.devRef .tc main_arg2) = X (Proc.devRef .tc main_arg2) := by
  simp only [postI, afterL_cons, afterL_nil]
  refine ⟨?_, ?_, ?_⟩ <;> after_reads_simp

/-- The whole program leaves the arguments. -/
theorem final_args : finalContents condOps preI bodyI postI 1000 m c (Proc.devRef .tc main_arg0) = launchContents m c (Proc.devRef .tc main_arg0)
    ∧ finalContents condOps preI bodyI postI 1000 m c (Proc.devRef .tc main_arg1) = launchContents m c (Proc.devRef .tc main_arg1)
    ∧ finalContents condOps preI bodyI postI 1000 m c (Proc.devRef .tc main_arg2) = launchContents m c (Proc.devRef .tc main_arg2) :=
  ⟨(post_args _).1.trans ((atK_keep m c main_arg0 (fun X => (trip_args X).1) 1000).trans (pre_args _).1),
    (post_args _).2.1.trans ((atK_keep m c main_arg1 (fun X => (trip_args X).2.1) 1000).trans (pre_args _).2.1),
    (post_args _).2.2.trans ((atK_keep m c main_arg2 (fun X => (trip_args X).2.2) 1000).trans (pre_args _).2.2)⟩

variable (ρ : Dev nD → PrngReg)

/-- Every run of the reference ends with its results at the fold and its arguments unchanged. -/
theorem run_results : θ_run (defs (F := Ideal)) (onTc (τ := τ) (main (F := Ideal))) ⟨m, fun _ => 0, ρ⟩ (fun r => ∀ c : Dev nD,
      r.2.mem ((c.tc : Thread nD τ).loc main_v93) = rPost (exit m c) (Proc.devRef .tc main_v93)
      ∧ r.2.mem ((c.tc : Thread nD τ).loc main_v94) = rPost (exit m c) (Proc.devRef .tc main_v94)
      ∧ r.2.mem ((c.tc : Thread nD τ).loc main_v91) = rPost (exit m c) (Proc.devRef .tc main_v91)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (run_fold m ρ)
  obtain ⟨a0, a1, a2⟩ := final_args m c
  refine ⟨(h c main_v93 (by decide)).trans (congrFun (final_split m c) _), (h c main_v94 (by decide)).trans (congrFun (final_split m c) _),
    (h c main_v91 (by decide)).trans (congrFun (final_split m c) _), (h c main_arg0 (by decide)).trans a0,
    (h c main_arg1 (by decide)).trans a1, (h c main_arg2 (by decide)).trans a2⟩

/-- Every run of the reference ends with its arguments unchanged and every counter at zero. -/
theorem frame : θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run _ _ _).mono (fun r h => ⟨fun c => (h c).2.2.2, sem_eq_zero_of_no_sems (by decide) r.2⟩) (run_results m ρ)

end Cert.ReferenceIdeal.Value

namespace Cert.Common

open Cert.KernelIdeal.Value (left start over iouOf b01 adjN adjG rows cols)
open Cert.ReferenceIdeal.Value (exit bits word word_bits adjM)

variable (m : (ℓ : Loc Cert.KernelIdeal.nD Cert.KernelIdeal.τ Cert.KernelIdeal.sig) → Buf (Elt Ideal) ℓ)
  (m' : (ℓ : Loc Cert.ReferenceIdeal.nD Cert.ReferenceIdeal.τ Cert.ReferenceIdeal.sig) → Buf (Elt Ideal) ℓ) (c : Dev Cert.KernelIdeal.nD)

/-- The two programs' memories hold the same arguments on device `c`. -/
abbrev SameArgs : Prop := start m c (Proc.devRef .tc Cert.KernelIdeal.main_arg0) = launchContents m' c (Proc.devRef .tc Cert.ReferenceIdeal.main_arg0)
    ∧ start m c (Proc.devRef .tc Cert.KernelIdeal.main_arg1) = launchContents m' c (Proc.devRef .tc Cert.ReferenceIdeal.main_arg1)
    ∧ start m c (Proc.devRef .tc Cert.KernelIdeal.main_arg2) = launchContents m' c (Proc.devRef .tc Cert.ReferenceIdeal.main_arg2)

variable {m m' c}

/-- The kernel's adjacency of two candidates is the reference's. -/
theorem adj_eq (h : SameArgs m m' c) (i j : ℕ) (hi : i < 1000) (hj : j < 1000) :
    adjN (rows m c) (cols m c) i j = adjM (rPre (launchContents m' c) (Proc.devRef .tc Cert.ReferenceIdeal.main_v85_1)) i j := by
  obtain ⟨_, h34, h37, h40, h43, h46⟩ := pre_eq (start m c) (launchContents m' c) h.1 h.2.1 h.2.2
  have hr : rows m c = Cert.KernelIdeal.Value.mid (kPre (start m c)) (Proc.devRef .tc Cert.KernelIdeal.main_v63) :=
    congrFun (Cert.KernelIdeal.Value.entry_eq m c) _
  have hc : cols m c = Cert.KernelIdeal.Value.mid (kPre (start m c)) (Proc.devRef .tc Cert.KernelIdeal.main_v75) :=
    congrFun (Cert.KernelIdeal.Value.entry_eq m c) _
  obtain ⟨r0, r1, r2, r3, r4⟩ := Cert.KernelIdeal.Value.mid_rows (kPre (start m c)) j hj
  obtain ⟨c0, c1, c2, c3, c4⟩ := Cert.KernelIdeal.Value.mid_cols (kPre (start m c)) i hi
  unfold adjN adjM
  rw [dif_pos ⟨by omega, by omega⟩, dif_pos ⟨hi, hj⟩]
  unfold adjG
  rw [hr, hc, r0, r1, r2, r3, r4, c0, c1, c2, c3, c4, h34, h37, h40, h43, h46]
  exact congrArg over (Cert.ReferenceIdeal.Value.entry_iou _ ⟨i, hi⟩ ⟨j, hj⟩).symm

/-- The flags kept by the kernel's program are those kept by the reference's. -/
theorem kept_eq (h : SameArgs m m' c) : after Cert.KernelIdeal.Gen.hostOps1 (left m c) (Proc.devRef .tc Cert.KernelIdeal.main_v80)
    = exit m' c (Proc.devRef .tc Cert.ReferenceIdeal.main_v85_4) := by
  have h6 := (pre_eq (start m c) (launchContents m' c) h.1 h.2.1 h.2.2).1.2.2.2
  rw [Cert.ReferenceIdeal.Value.exit_keep]
  generalize hb : bits (rPre (launchContents m' c) (Proc.devRef .tc Cert.ReferenceIdeal.main_v6)) = v
  have hw : word v = rPre (launchContents m' c) (Proc.devRef .tc Cert.ReferenceIdeal.main_v6) := by rw [← hb]; exact word_bits _
  have hr : rows m c = Cert.KernelIdeal.Value.mid (kPre (start m c)) (Proc.devRef .tc Cert.KernelIdeal.main_v63) :=
    congrFun (Cert.KernelIdeal.Value.entry_eq m c) _
  have hv : ∀ j : Fin 1024, rows m c (ix2 5 j) = b01 (v j.val) := fun j =>
    (congrFun hr _).trans (Cert.KernelIdeal.Value.mid_row5 (kPre (start m c)) v (fun j => congrFun (h6.trans hw.symm) (ix1 j))
      (fun j hj => by rw [← hb]; exact dif_neg (by omega)) j)
  funext y
  obtain ⟨j, rfl⟩ : ∃ j : Fin 1000, y = ix1 j := ⟨y 0, eq_ix1 y⟩
  refine (Cert.KernelIdeal.Value.kept_left m c v hv j).trans (congrArg BitVec.ofBool ?_)
  exact (Greedy.nms_congr 1000 v v _ _ (fun _ _ => rfl) (fun i hi j hj => adj_eq h i j hi hj) 1000 le_rfl j.val j.isLt).1

/-- The two programs' results are equal. -/
theorem results_eq (h : SameArgs m m' c) :
    kPost (left m c) (Proc.devRef .tc Cert.KernelIdeal.main_v88) = rPost (exit m' c) (Proc.devRef .tc Cert.ReferenceIdeal.main_v93)
    ∧ kPost (left m c) (Proc.devRef .tc Cert.KernelIdeal.main_v89) = rPost (exit m' c) (Proc.devRef .tc Cert.ReferenceIdeal.main_v94)
    ∧ kPost (left m c) (Proc.devRef .tc Cert.KernelIdeal.main_v86) = rPost (exit m' c) (Proc.devRef .tc Cert.ReferenceIdeal.main_v91) := by
  obtain ⟨⟨pv, pb, pl, _⟩, _⟩ := pre_eq (start m c) (launchContents m' c) h.1 h.2.1 h.2.2
  obtain ⟨kv, kb, kl⟩ := Cert.KernelIdeal.Value.left_keeps m c
  obtain ⟨rv, rb, rl⟩ := Cert.ReferenceIdeal.Value.exit_keeps m' c
  exact post_eq (left m c) (exit m' c) (kv.trans (pv.trans rv.symm)) (kb.trans (pb.trans rb.symm)) (kl.trans (pl.trans rl.symm)) (kept_eq h)

end Cert.Common

namespace Cert.KernelIdeal.Value

open Cert.KernelIdeal Cert.KernelIdeal.Gen
open Cert.Common (kPost)

variable (m : (ℓ : Loc nD τ sig) → Buf (Elt Ideal) ℓ) (ρ : Dev nD → PrngReg)

/-- Every run of the kernel's program ends with its results read off what the call left, and its arguments unchanged. -/
theorem run_results : θ_run (defs (F := Ideal)) (onTc (τ := τ) (main (F := Ideal))) ⟨m, fun _ => 0, ρ⟩ (fun r => ∀ c : Dev nD,
      r.2.mem ((c.tc : Thread nD τ).loc main_v88) = kPost (left m c) (Proc.devRef .tc main_v88)
      ∧ r.2.mem ((c.tc : Thread nD τ).loc main_v89) = kPost (left m c) (Proc.devRef .tc main_v89)
      ∧ r.2.mem ((c.tc : Thread nD τ).loc main_v86) = kPost (left m c) (Proc.devRef .tc main_v86)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono (fun r h c => ?_) (θ_run_and (run_main m ρ) (unchanged m ρ))
  obtain ⟨hrest, hargs⟩ := h
  exact ⟨((hrest c).2 main_v88 (Pipeline.mem_restRefs_of main_v88 (by decide) (by decide))).trans (tail_eq m c main_v88),
    ((hrest c).2 main_v89 (Pipeline.mem_restRefs_of main_v89 (by decide) (by decide))).trans (tail_eq m c main_v89),
    ((hrest c).2 main_v86 (Pipeline.mem_restRefs_of main_v86 (by decide) (by decide))).trans (tail_eq m c main_v86), hargs c⟩

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Ending
public import Idealize.ShloMosaic.Adequacy
public import Idealize.ShloMosaic.Init

@[expose] public section

noncomputable section

namespace Cert.Proof

open Idealize.ShloMosaic Idealize.SL.Sem Cert.Kernel

/-- The kernel's program and the reference end with equal results and unchanged arguments. -/
theorem algebraic : algebraic_KernelIdeal_ReferenceIdeal (hKernelIdeal := Cert.KernelIdeal.Gen.facts) (hReferenceIdeal := Cert.ReferenceIdeal.Gen.facts) := by
  intro m g m' g' _ hargs
  refine ⟨_, _, _, Cert.KernelIdeal.Value.run_results m g, (θ_run _ _ _).mono (fun r h c => ?_) (Cert.ReferenceIdeal.Value.run_results m' g')⟩
  obtain ⟨e0, e1, e2⟩ := Cert.Common.results_eq (m := m) (m' := m') (c := c) ⟨(hargs c).1.symm, (hargs c).2.1.symm, (hargs c).2.2.symm⟩
  obtain ⟨h0, h1, h2, ha⟩ := h c
  exact ⟨h0.trans e0.symm, h1.trans e1.symm, h2.trans e2.symm, ha⟩

/-- Everything this certificate claims. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ, fun m ρ _ => Cert.ReferenceIdeal.Value.frame m ρ,
  trivial, algebraic⟩

end Cert.Proof

end
